-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S1024x2x2048 : Shape := ⟨3, ![1024, 2, 2048]⟩
abbrev S64x2x2048 : Shape := ⟨3, ![64, 2, 2048]⟩
abbrev S1x2x2048 : Shape := ⟨3, ![1, 2, 2048]⟩
abbrev S64x1 : Shape := ⟨2, ![64, 1]⟩
abbrev S1x2048 : Shape := ⟨2, ![1, 2048]⟩
abbrev S64x1x2048 : Shape := ⟨3, ![64, 1, 2048]⟩
abbrev S64x2048 : Shape := ⟨2, ![64, 2048]⟩
abbrev S1x1x2048 : Shape := ⟨3, ![1, 1, 2048]⟩
abbrev S63x2048 : Shape := ⟨2, ![63, 2048]⟩
abbrev S64x2047 : Shape := ⟨2, ![64, 2047]⟩
abbrev S64x2046 : Shape := ⟨2, ![64, 2046]⟩
abbrev S64x2 : Shape := ⟨2, ![64, 2]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1024x2x2048, .f32⟩
  | .hbm, ⟨4, _⟩ => ⟨S1024x2x2048, .f32⟩
  | .hbm, ⟨5, _⟩ => ⟨S1024x2x2048, .f32⟩
  | .hbm, ⟨6, _⟩ => ⟨S1024x2x2048, .f32⟩
  | .hbm, ⟨7, _⟩ => ⟨S1024x2x2048, .f32⟩
  | .hbm, ⟨8, _⟩ => ⟨S2048x2048, .f32⟩
  | .hbm, ⟨9, _⟩ => ⟨S2048x2048, .f32⟩
  | .local _ .vmem, ⟨0, _⟩ => ⟨S64x2x2048, .f32⟩
  | .local _ .vmem, ⟨1, _⟩ => ⟨S64x2x2048, .f32⟩
  | .local _ .vmem, ⟨2, _⟩ => ⟨S64x2x2048, .f32⟩
  | .local _ .vmem, ⟨3, _⟩ => ⟨S64x2x2048, .f32⟩
  | .local _ .vmem, ⟨4, _⟩ => ⟨S64x2x2048, .f32⟩
  | .local _ .vmem, ⟨5, _⟩ => ⟨S64x2x2048, .f32⟩
  | .local _ .vmem, ⟨6, _⟩ => ⟨S1x2x2048, .f32⟩
  | .local _ .vmem, ⟨7, _⟩ => ⟨S1x2x2048, .f32⟩
  | .local _ .vmem, ⟨8, _⟩ => ⟨S1x2x2048, .f32⟩
  | .local _ .vmem, ⟨9, _⟩ => ⟨S1x2x2048, .f32⟩
  | .local _ .vmem, ⟨10, _⟩ => ⟨S1x2x2048, .f32⟩
  | .local _ .vmem, ⟨11, _⟩ => ⟨S1x2x2048, .f32⟩
  | .local _ .vmem, ⟨12, _⟩ => ⟨S64x2x2048, .f32⟩
  | .local _ .vmem, ⟨13, _⟩ => ⟨S64x2x2048, .f32⟩
  | .local _ .vmem, ⟨14, _⟩ => ⟨S64x2x2048, .f32⟩
  | .local _ .vmem, ⟨15, _⟩ => ⟨S64x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x2048 : Shape := ⟨2, ![2048, 2048]⟩
abbrev S1023 : Shape := ⟨1, ![1023]⟩
abbrev S_ : Shape := ⟨0, ![]⟩
abbrev S1023x1 : Shape := ⟨2, ![1023, 1]⟩
abbrev S3 : Shape := ⟨1, ![3]⟩
abbrev S1x3 : Shape := ⟨2, ![1, 3]⟩
abbrev S1023x3 : Shape := ⟨2, ![1023, 3]⟩
abbrev S1023x1x3x1 : Shape := ⟨4, ![1023, 1, 3, 1]⟩
abbrev S1x1023x1x3 : Shape := ⟨4, ![1, 1023, 1, 3]⟩
abbrev S1023x1023x3x3 : Shape := ⟨4, ![1023, 1023, 3, 3]⟩
abbrev S1023x1023x3x3x1 : Shape := ⟨5, ![1023, 1023, 3, 3, 1]⟩
abbrev S1023x1023x3x3x2 : Shape := ⟨5, ![1023, 1023, 3, 3, 2]⟩
abbrev S1023x1023x9 : Shape := ⟨3, ![1023, 1023, 9]⟩
abbrev S1023x1023 : Shape := ⟨2, ![1023, 1023]⟩
abbrev S1023x1023x1 : Shape := ⟨3, ![1023, 1023, 1]⟩
abbrev S1023x1023x1x1 : Shape := ⟨4, ![1023, 1023, 1, 1]⟩
abbrev S1 : Shape := ⟨1, ![1]⟩
abbrev S1x1x1x1 : Shape := ⟨4, ![1, 1, 1, 1]⟩
abbrev S2048 : Shape := ⟨1, ![2048]⟩
abbrev S2048x1 : Shape := ⟨2, ![2048, 1]⟩
abbrev S1x2048 : Shape := ⟨2, ![1, 2048]⟩
abbrev S2048x2048x1 : Shape := ⟨3, ![2048, 2048, 1]⟩
abbrev S2048x2048x2 : Shape := ⟨3, ![2048, 2048, 2]⟩

abbrev nBuf : Space → Nat
  | .hbm => 817
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S1023, .i32⟩
  | 4 => ⟨S_, .i32⟩
  | 5 => ⟨S1023, .i32⟩
  | 6 => ⟨S1023, .i32⟩
  | 7 => ⟨S1023, .i32⟩
  | 8 => ⟨S_, .i32⟩
  | 9 => ⟨S1023, .i32⟩
  | 10 => ⟨S1023, .i32⟩
  | 11 => ⟨S1023x1, .i32⟩
  | 12 => ⟨S3, .i32⟩
  | 13 => ⟨S1x3, .i32⟩
  | 14 => ⟨S1023x3, .i32⟩
  | 15 => ⟨S1023x3, .i32⟩
  | 16 => ⟨S1023x3, .i32⟩
  | 17 => ⟨S1023x1, .i32⟩
  | 18 => ⟨S3, .i32⟩
  | 19 => ⟨S1x3, .i32⟩
  | 20 => ⟨S1023x3, .i32⟩
  | 21 => ⟨S1023x3, .i32⟩
  | 22 => ⟨S1023x3, .i32⟩
  | 23 => ⟨S1023x1x3x1, .i32⟩
  | 24 => ⟨S1x1023x1x3, .i32⟩
  | 25 => ⟨S_, .i32⟩
  | 26 => ⟨S1023x1x3x1, .i32⟩
  | 27 => ⟨S1023x1x3x1, .i1⟩
  | 28 => ⟨S_, .i32⟩
  | 29 => ⟨S1023x1x3x1, .i32⟩
  | 30 => ⟨S1023x1x3x1, .i32⟩
  | 31 => ⟨S1023x1x3x1, .i32⟩
  | 32 => ⟨S_, .i32⟩
  | 33 => ⟨S1x1023x1x3, .i32⟩
  | 34 => ⟨S1x1023x1x3, .i1⟩
  | 35 => ⟨S_, .i32⟩
  | 36 => ⟨S1x1023x1x3, .i32⟩
  | 37 => ⟨S1x1023x1x3, .i32⟩
  | 38 => ⟨S1x1023x1x3, .i32⟩
  | 39 => ⟨S1023x1023x3x3, .i32⟩
  | 40 => ⟨S1023x1023x3x3, .i32⟩
  | 41 => ⟨S1023x1023x3x3x1, .i32⟩
  | 42 => ⟨S1023x1023x3x3x1, .i32⟩
  | 43 => ⟨S1023x1023x3x3x2, .i32⟩
  | 44 => ⟨S1023x1023x3x3, .f32⟩
  | 45 => ⟨S1023x1023x9, .f32⟩
  | 46 => ⟨S1023, .i32⟩
  | 47 => ⟨S_, .i32⟩
  | 48 => ⟨S1023, .i32⟩
  | 49 => ⟨S1023, .i32⟩
  | 50 => ⟨S1023, .i32⟩
  | 51 => ⟨S_, .i32⟩
  | 52 => ⟨S1023, .i32⟩
  | 53 => ⟨S1023, .i32⟩
  | 54 => ⟨S1023x1, .i32⟩
  | 55 => ⟨S3, .i32⟩
  | 56 => ⟨S1x3, .i32⟩
  | 57 => ⟨S1023x3, .i32⟩
  | 58 => ⟨S1023x3, .i32⟩
  | 59 => ⟨S1023x3, .i32⟩
  | 60 => ⟨S1023x1, .i32⟩
  | 61 => ⟨S3, .i32⟩
  | 62 => ⟨S1x3, .i32⟩
  | 63 => ⟨S1023x3, .i32⟩
  | 64 => ⟨S1023x3, .i32⟩
  | 65 => ⟨S1023x3, .i32⟩
  | 66 => ⟨S1023x1x3x1, .i32⟩
  | 67 => ⟨S1x1023x1x3, .i32⟩
  | 68 => ⟨S_, .i32⟩
  | 69 => ⟨S1023x1x3x1, .i32⟩
  | 70 => ⟨S1023x1x3x1, .i1⟩
  | 71 => ⟨S_, .i32⟩
  | 72 => ⟨S1023x1x3x1, .i32⟩
  | 73 => ⟨S1023x1x3x1, .i32⟩
  | 74 => ⟨S1023x1x3x1, .i32⟩
  | 75 => ⟨S_, .i32⟩
  | 76 => ⟨S1x1023x1x3, .i32⟩
  | 77 => ⟨S1x1023x1x3, .i1⟩
  | 78 => ⟨S_, .i32⟩
  | 79 => ⟨S1x1023x1x3, .i32⟩
  | 80 => ⟨S1x1023x1x3, .i32⟩
  | 81 => ⟨S1x1023x1x3, .i32⟩
  | 82 => ⟨S1023x1023x3x3, .i32⟩
  | 83 => ⟨S1023x1023x3x3, .i32⟩
  | 84 => ⟨S1023x1023x3x3x1, .i32⟩
  | 85 => ⟨S1023x1023x3x3x1, .i32⟩
  | 86 => ⟨S1023x1023x3x3x2, .i32⟩
  | 87 => ⟨S1023x1023x3x3, .f32⟩
  | 88 => ⟨S1023x1023x9, .f32⟩
  | 89 => ⟨S1023x1023x9, .f32⟩
  | 90 => ⟨S1023x1023x9, .f32⟩
  | 91 => ⟨S1023x1023x9, .i32⟩
  | 92 => ⟨S_, .f32⟩
  | 93 => ⟨S_, .i32⟩
  | 94 => ⟨S1023x1023, .f32⟩
  | 95 => ⟨S1023x1023, .i32⟩
  | 96 => ⟨S1023x1023x1, .i32⟩
  | 97 => ⟨S_, .i32⟩
  | 98 => ⟨S1023x1023x1, .i32⟩
  | 99 => ⟨S1023x1023x1, .i1⟩
  | 100 => ⟨S_, .i32⟩
  | 101 => ⟨S1023x1023x1, .i32⟩
  | 102 => ⟨S1023x1023x1, .i32⟩
  | 103 => ⟨S1023x1023x1, .i32⟩
  | 104 => ⟨S1023x1023x1x1, .i32⟩
  | 105 => ⟨S1, .i32⟩
  | 106 => ⟨S_, .i32⟩
  | 107 => ⟨S1023x1023x1x1, .i32⟩
  | 108 => ⟨S1023x1023x1x1, .i1⟩
  | 109 => ⟨S1x1x1x1, .i32⟩
  | 110 => ⟨S1023x1023x1x1, .i32⟩
  | 111 => ⟨S1023x1023x1x1, .i1⟩
  | 112 => ⟨S1023x1023x1x1, .i1⟩
  | 113 => ⟨S_, .i1⟩
  | 114 => ⟨S1023x1023x1, .i1⟩
  | 115 => ⟨S1023x1023x1, .f32⟩
  | 116 => ⟨S_, .f32⟩
  | 117 => ⟨S1023x1023x1, .f32⟩
  | 118 => ⟨S1023x1023x1, .f32⟩
  | 119 => ⟨S1023x1023, .f32⟩
  | 120 => ⟨S2048, .i32⟩
  | 121 => ⟨S2048, .i32⟩
  | 122 => ⟨S_, .i32⟩
  | 123 => ⟨S_, .i32⟩
  | 124 => ⟨S2048, .i32⟩
  | 125 => ⟨S2048, .i32⟩
  | 126 => ⟨S2048, .i32⟩
  | 127 => ⟨S_, .i32⟩
  | _ => ⟨S2048x2048, .f32⟩

abbrev hbmTy0_1 (i : Nat) : BufTy := match i % 128 with
  | 0 => ⟨S2048, .i32⟩
  | 1 => ⟨S2048, .i1⟩
  | 2 => ⟨S2048, .i32⟩
  | 3 => ⟨S2048, .i32⟩
  | 4 => ⟨S_, .i32⟩
  | 5 => ⟨S2048, .i32⟩
  | 6 => ⟨S2048, .i1⟩
  | 7 => ⟨S2048, .i1⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S_, .i32⟩
  | 48 => ⟨S2048, .i32⟩
  | 49 => ⟨S2048, .i1⟩
  | 50 => ⟨S2048x1, .i1⟩
  | 51 => ⟨S1x2048, .i1⟩
  | 52 => ⟨S2048x2048, .i1⟩
  | 53 => ⟨S2048x2048, .i1⟩
  | 54 => ⟨S2048x2048, .i1⟩
  | 55 => ⟨S2048x1, .i32⟩
  | 56 => ⟨S1x2048, .i32⟩
  | 57 => ⟨S_, .i32⟩
  | 58 => ⟨S2048x1, .i32⟩
  | 59 => ⟨S2048x1, .i1⟩
  | 60 => ⟨S_, .i32⟩
  | 61 => ⟨S2048x1, .i32⟩
  | 62 => ⟨S2048x1, .i32⟩
  | 63 => ⟨S2048x1, .i32⟩
  | 64 => ⟨S_, .i32⟩
  | 65 => ⟨S1x2048, .i32⟩
  | 66 => ⟨S1x2048, .i1⟩
  | 67 => ⟨S_, .i32⟩
  | 68 => ⟨S1x2048, .i32⟩
  | 69 => ⟨S1x2048, .i32⟩
  | 70 => ⟨S1x2048, .i32⟩
  | 71 => ⟨S2048x2048, .i32⟩
  | 72 => ⟨S2048x2048, .i32⟩
  | 73 => ⟨S2048x2048x1, .i32⟩
  | 74 => ⟨S2048x2048x1, .i32⟩
  | 75 => ⟨S2048x2048x2, .i32⟩
  | 76 => ⟨S2048x2048, .f32⟩
  | 77 => ⟨S2048x2048, .f32⟩
  | 78 => ⟨S1023, .i32⟩
  | 79 => ⟨S_, .i32⟩
  | 80 => ⟨S1023, .i32⟩
  | 81 => ⟨S1023, .i32⟩
  | 82 => ⟨S1023, .i32⟩
  | 83 => ⟨S_, .i32⟩
  | 84 => ⟨S1023, .i32⟩
  | 85 => ⟨S1023, .i32⟩
  | 86 => ⟨S1023x1, .i32⟩
  | 87 => ⟨S3, .i32⟩
  | 88 => ⟨S1x3, .i32⟩
  | 89 => ⟨S1023x3, .i32⟩
  | 90 => ⟨S1023x3, .i32⟩
  | 91 => ⟨S1023x3, .i32⟩
  | 92 => ⟨S1023x1, .i32⟩
  | 93 => ⟨S3, .i32⟩
  | 94 => ⟨S1x3, .i32⟩
  | 95 => ⟨S1023x3, .i32⟩
  | 96 => ⟨S1023x3, .i32⟩
  | 97 => ⟨S1023x3, .i32⟩
  | 98 => ⟨S1023x1x3x1, .i32⟩
  | 99 => ⟨S1x1023x1x3, .i32⟩
  | 100 => ⟨S_, .i32⟩
  | 101 => ⟨S1023x1x3x1, .i32⟩
  | 102 => ⟨S1023x1x3x1, .i1⟩
  | 103 => ⟨S_, .i32⟩
  | 104 => ⟨S1023x1x3x1, .i32⟩
  | 105 => ⟨S1023x1x3x1, .i32⟩
  | 106 => ⟨S1023x1x3x1, .i32⟩
  | 107 => ⟨S_, .i32⟩
  | 108 => ⟨S1x1023x1x3, .i32⟩
  | 109 => ⟨S1x1023x1x3, .i1⟩
  | 110 => ⟨S_, .i32⟩
  | 111 => ⟨S1x1023x1x3, .i32⟩
  | 112 => ⟨S1x1023x1x3, .i32⟩
  | 113 => ⟨S1x1023x1x3, .i32⟩
  | 114 => ⟨S1023x1023x3x3, .i32⟩
  | 115 => ⟨S1023x1023x3x3, .i32⟩
  | 116 => ⟨S1023x1023x3x3x1, .i32⟩
  | 117 => ⟨S1023x1023x3x3x1, .i32⟩
  | 118 => ⟨S1023x1023x3x3x2, .i32⟩
  | 119 => ⟨S1023x1023x3x3, .f32⟩
  | 120 => ⟨S1023x1023x9, .f32⟩
  | 121 => ⟨S1023, .i32⟩
  | 122 => ⟨S_, .i32⟩
  | 123 => ⟨S1023, .i32⟩
  | 124 => ⟨S1023, .i32⟩
  | 125 => ⟨S1023, .i32⟩
  | 126 => ⟨S_, .i32⟩
  | 127 => ⟨S1023, .i32⟩
  | _ => ⟨S2048x2048, .f32⟩

abbrev hbmTy0_2 (i : Nat) : BufTy := match i % 128 with
  | 0 => ⟨S1023, .i32⟩
  | 1 => ⟨S1023x1, .i32⟩
  | 2 => ⟨S3, .i32⟩
  | 3 => ⟨S1x3, .i32⟩
  | 4 => ⟨S1023x3, .i32⟩
  | 5 => ⟨S1023x3, .i32⟩
  | 6 => ⟨S1023x3, .i32⟩
  | 7 => ⟨S1023x1, .i32⟩
  | 8 => ⟨S3, .i32⟩
  | 9 => ⟨S1x3, .i32⟩
  | 10 => ⟨S1023x3, .i32⟩
  | 11 => ⟨S1023x3, .i32⟩
  | 12 => ⟨S1023x3, .i32⟩
  | 13 => ⟨S1023x1x3x1, .i32⟩
  | 14 => ⟨S1x1023x1x3, .i32⟩
  | 15 => ⟨S_, .i32⟩
  | 16 => ⟨S1023x1x3x1, .i32⟩
  | 17 => ⟨S1023x1x3x1, .i1⟩
  | 18 => ⟨S_, .i32⟩
  | 19 => ⟨S1023x1x3x1, .i32⟩
  | 20 => ⟨S1023x1x3x1, .i32⟩
  | 21 => ⟨S1023x1x3x1, .i32⟩
  | 22 => ⟨S_, .i32⟩
  | 23 => ⟨S1x1023x1x3, .i32⟩
  | 24 => ⟨S1x1023x1x3, .i1⟩
  | 25 => ⟨S_, .i32⟩
  | 26 => ⟨S1x1023x1x3, .i32⟩
  | 27 => ⟨S1x1023x1x3, .i32⟩
  | 28 => ⟨S1x1023x1x3, .i32⟩
  | 29 => ⟨S1023x1023x3x3, .i32⟩
  | 30 => ⟨S1023x1023x3x3, .i32⟩
  | 31 => ⟨S1023x1023x3x3x1, .i32⟩
  | 32 => ⟨S1023x1023x3x3x1, .i32⟩
  | 33 => ⟨S1023x1023x3x3x2, .i32⟩
  | 34 => ⟨S1023x1023x3x3, .f32⟩
  | 35 => ⟨S1023x1023x9, .f32⟩
  | 36 => ⟨S1023x1023x9, .f32⟩
  | 37 => ⟨S1023x1023x9, .f32⟩
  | 38 => ⟨S1023x1023x9, .i32⟩
  | 39 => ⟨S_, .f32⟩
  | 40 => ⟨S_, .i32⟩
  | 41 => ⟨S1023x1023, .f32⟩
  | 42 => ⟨S1023x1023, .i32⟩
  | 43 => ⟨S1023x1023x1, .i32⟩
  | 44 => ⟨S_, .i32⟩
  | 45 => ⟨S1023x1023x1, .i32⟩
  | 46 => ⟨S1023x1023x1, .i1⟩
  | 47 => ⟨S_, .i32⟩
  | 48 => ⟨S1023x1023x1, .i32⟩
  | 49 => ⟨S1023x1023x1, .i32⟩
  | 50 => ⟨S1023x1023x1, .i32⟩
  | 51 => ⟨S1023x1023x1x1, .i32⟩
  | 52 => ⟨S1, .i32⟩
  | 53 => ⟨S_, .i32⟩
  | 54 => ⟨S1023x1023x1x1, .i32⟩
  | 55 => ⟨S1023x1023x1x1, .i1⟩
  | 56 => ⟨S1x1x1x1, .i32⟩
  | 57 => ⟨S1023x1023x1x1, .i32⟩
  | 58 => ⟨S1023x1023x1x1, .i1⟩
  | 59 => ⟨S1023x1023x1x1, .i1⟩
  | 60 => ⟨S_, .i1⟩
  | 61 => ⟨S1023x1023x1, .i1⟩
  | 62 => ⟨S1023x1023x1, .f32⟩
  | 63 => ⟨S_, .f32⟩
  | 64 => ⟨S1023x1023x1, .f32⟩
  | 65 => ⟨S1023x1023x1, .f32⟩
  | 66 => ⟨S1023x1023, .f32⟩
  | 67 => ⟨S2048, .i32⟩
  | 68 => ⟨S2048, .i32⟩
  | 69 => ⟨S_, .i32⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S2048, .i32⟩
  | 78 => ⟨S2048, .i32⟩
  | 79 => ⟨S_, .i32⟩
  | 80 => ⟨S2048, .i32⟩
  | 81 => ⟨S2048, .i1⟩
  | 82 => ⟨S2048, .i1⟩
  | 83 => ⟨S_, .i32⟩
  | 84 => ⟨S2048, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S_, .i32⟩
  | 92 => ⟨S2048, .i32⟩
  | 93 => ⟨S2048, .i32⟩
  | 94 => ⟨S2048, .i32⟩
  | 95 => ⟨S_, .i32⟩
  | 96 => ⟨S2048, .i32⟩
  | 97 => ⟨S2048, .i1⟩
  | 98 => ⟨S2048, .i32⟩
  | 99 => ⟨S2048, .i32⟩
  | 100 => ⟨S_, .i32⟩
  | 101 => ⟨S2048, .i32⟩
  | 102 => ⟨S2048, .i1⟩
  | 103 => ⟨S2048, .i1⟩
  | 104 => ⟨S_, .i32⟩
  | 105 => ⟨S2048, .i32⟩
  | 106 => ⟨S2048, .i32⟩
  | 107 => ⟨S2048, .i32⟩
  | 108 => ⟨S_, .i32⟩
  | 109 => ⟨S2048, .i32⟩
  | 110 => ⟨S2048, .i32⟩
  | 111 => ⟨S_, .i32⟩
  | 112 => ⟨S2048, .i32⟩
  | 113 => ⟨S2048, .i32⟩
  | 114 => ⟨S2048, .i32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i1⟩
  | 125 => ⟨S2048x1, .i1⟩
  | 126 => ⟨S1x2048, .i1⟩
  | 127 => ⟨S2048x2048, .i1⟩
  | _ => ⟨S2048x2048, .f32⟩

abbrev hbmTy0_3 (i : Nat) : BufTy := match i % 128 with
  | 0 => ⟨S2048x2048, .i1⟩
  | 1 => ⟨S2048x2048, .i1⟩
  | 2 => ⟨S2048x1, .i32⟩
  | 3 => ⟨S1x2048, .i32⟩
  | 4 => ⟨S_, .i32⟩
  | 5 => ⟨S2048x1, .i32⟩
  | 6 => ⟨S2048x1, .i1⟩
  | 7 => ⟨S_, .i32⟩
  | 8 => ⟨S2048x1, .i32⟩
  | 9 => ⟨S2048x1, .i32⟩
  | 10 => ⟨S2048x1, .i32⟩
  | 11 => ⟨S_, .i32⟩
  | 12 => ⟨S1x2048, .i32⟩
  | 13 => ⟨S1x2048, .i1⟩
  | 14 => ⟨S_, .i32⟩
  | 15 => ⟨S1x2048, .i32⟩
  | 16 => ⟨S1x2048, .i32⟩
  | 17 => ⟨S1x2048, .i32⟩
  | 18 => ⟨S2048x2048, .i32⟩
  | 19 => ⟨S2048x2048, .i32⟩
  | 20 => ⟨S2048x2048x1, .i32⟩
  | 21 => ⟨S2048x2048x1, .i32⟩
  | 22 => ⟨S2048x2048x2, .i32⟩
  | 23 => ⟨S2048x2048, .f32⟩
  | 24 => ⟨S2048x2048, .f32⟩
  | 25 => ⟨S2048x2048, .f32⟩
  | 26 => ⟨S1023, .i32⟩
  | 27 => ⟨S_, .i32⟩
  | 28 => ⟨S1023, .i32⟩
  | 29 => ⟨S1023, .i32⟩
  | 30 => ⟨S1023, .i32⟩
  | 31 => ⟨S_, .i32⟩
  | 32 => ⟨S1023, .i32⟩
  | 33 => ⟨S1023, .i32⟩
  | 34 => ⟨S1023x1, .i32⟩
  | 35 => ⟨S3, .i32⟩
  | 36 => ⟨S1x3, .i32⟩
  | 37 => ⟨S1023x3, .i32⟩
  | 38 => ⟨S1023x3, .i32⟩
  | 39 => ⟨S1023x3, .i32⟩
  | 40 => ⟨S1023x1, .i32⟩
  | 41 => ⟨S3, .i32⟩
  | 42 => ⟨S1x3, .i32⟩
  | 43 => ⟨S1023x3, .i32⟩
  | 44 => ⟨S1023x3, .i32⟩
  | 45 => ⟨S1023x3, .i32⟩
  | 46 => ⟨S1023x1x3x1, .i32⟩
  | 47 => ⟨S1x1023x1x3, .i32⟩
  | 48 => ⟨S_, .i32⟩
  | 49 => ⟨S1023x1x3x1, .i32⟩
  | 50 => ⟨S1023x1x3x1, .i1⟩
  | 51 => ⟨S_, .i32⟩
  | 52 => ⟨S1023x1x3x1, .i32⟩
  | 53 => ⟨S1023x1x3x1, .i32⟩
  | 54 => ⟨S1023x1x3x1, .i32⟩
  | 55 => ⟨S_, .i32⟩
  | 56 => ⟨S1x1023x1x3, .i32⟩
  | 57 => ⟨S1x1023x1x3, .i1⟩
  | 58 => ⟨S_, .i32⟩
  | 59 => ⟨S1x1023x1x3, .i32⟩
  | 60 => ⟨S1x1023x1x3, .i32⟩
  | 61 => ⟨S1x1023x1x3, .i32⟩
  | 62 => ⟨S1023x1023x3x3, .i32⟩
  | 63 => ⟨S1023x1023x3x3, .i32⟩
  | 64 => ⟨S1023x1023x3x3x1, .i32⟩
  | 65 => ⟨S1023x1023x3x3x1, .i32⟩
  | 66 => ⟨S1023x1023x3x3x2, .i32⟩
  | 67 => ⟨S1023x1023x3x3, .f32⟩
  | 68 => ⟨S1023x1023x9, .f32⟩
  | 69 => ⟨S1023, .i32⟩
  | 70 => ⟨S_, .i32⟩
  | 71 => ⟨S1023, .i32⟩
  | 72 => ⟨S1023, .i32⟩
  | 73 => ⟨S1023, .i32⟩
  | 74 => ⟨S_, .i32⟩
  | 75 => ⟨S1023, .i32⟩
  | 76 => ⟨S1023, .i32⟩
  | 77 => ⟨S1023x1, .i32⟩
  | 78 => ⟨S3, .i32⟩
  | 79 => ⟨S1x3, .i32⟩
  | 80 => ⟨S1023x3, .i32⟩
  | 81 => ⟨S1023x3, .i32⟩
  | 82 => ⟨S1023x3, .i32⟩
  | 83 => ⟨S1023x1, .i32⟩
  | 84 => ⟨S3, .i32⟩
  | 85 => ⟨S1x3, .i32⟩
  | 86 => ⟨S1023x3, .i32⟩
  | 87 => ⟨S1023x3, .i32⟩
  | 88 => ⟨S1023x3, .i32⟩
  | 89 => ⟨S1023x1x3x1, .i32⟩
  | 90 => ⟨S1x1023x1x3, .i32⟩
  | 91 => ⟨S_, .i32⟩
  | 92 => ⟨S1023x1x3x1, .i32⟩
  | 93 => ⟨S1023x1x3x1, .i1⟩
  | 94 => ⟨S_, .i32⟩
  | 95 => ⟨S1023x1x3x1, .i32⟩
  | 96 => ⟨S1023x1x3x1, .i32⟩
  | 97 => ⟨S1023x1x3x1, .i32⟩
  | 98 => ⟨S_, .i32⟩
  | 99 => ⟨S1x1023x1x3, .i32⟩
  | 100 => ⟨S1x1023x1x3, .i1⟩
  | 101 => ⟨S_, .i32⟩
  | 102 => ⟨S1x1023x1x3, .i32⟩
  | 103 => ⟨S1x1023x1x3, .i32⟩
  | 104 => ⟨S1x1023x1x3, .i32⟩
  | 105 => ⟨S1023x1023x3x3, .i32⟩
  | 106 => ⟨S1023x1023x3x3, .i32⟩
  | 107 => ⟨S1023x1023x3x3x1, .i32⟩
  | 108 => ⟨S1023x1023x3x3x1, .i32⟩
  | 109 => ⟨S1023x1023x3x3x2, .i32⟩
  | 110 => ⟨S1023x1023x3x3, .f32⟩
  | 111 => ⟨S1023x1023x9, .f32⟩
  | 112 => ⟨S1023x1023x9, .f32⟩
  | 113 => ⟨S1023x1023x9, .f32⟩
  | 114 => ⟨S1023x1023x9, .i32⟩
  | 115 => ⟨S_, .f32⟩
  | 116 => ⟨S_, .i32⟩
  | 117 => ⟨S1023x1023, .f32⟩
  | 118 => ⟨S1023x1023, .i32⟩
  | 119 => ⟨S1023x1023x1, .i32⟩
  | 120 => ⟨S_, .i32⟩
  | 121 => ⟨S1023x1023x1, .i32⟩
  | 122 => ⟨S1023x1023x1, .i1⟩
  | 123 => ⟨S_, .i32⟩
  | 124 => ⟨S1023x1023x1, .i32⟩
  | 125 => ⟨S1023x1023x1, .i32⟩
  | 126 => ⟨S1023x1023x1, .i32⟩
  | 127 => ⟨S1023x1023x1x1, .i32⟩
  | _ => ⟨S2048x2048, .f32⟩

abbrev hbmTy0_4 (i : Nat) : BufTy := match i % 128 with
  | 0 => ⟨S1, .i32⟩
  | 1 => ⟨S_, .i32⟩
  | 2 => ⟨S1023x1023x1x1, .i32⟩
  | 3 => ⟨S1023x1023x1x1, .i1⟩
  | 4 => ⟨S1x1x1x1, .i32⟩
  | 5 => ⟨S1023x1023x1x1, .i32⟩
  | 6 => ⟨S1023x1023x1x1, .i1⟩
  | 7 => ⟨S1023x1023x1x1, .i1⟩
  | 8 => ⟨S_, .i1⟩
  | 9 => ⟨S1023x1023x1, .i1⟩
  | 10 => ⟨S1023x1023x1, .f32⟩
  | 11 => ⟨S_, .f32⟩
  | 12 => ⟨S1023x1023x1, .f32⟩
  | 13 => ⟨S1023x1023x1, .f32⟩
  | 14 => ⟨S1023x1023, .f32⟩
  | 15 => ⟨S2048, .i32⟩
  | 16 => ⟨S2048, .i32⟩
  | 17 => ⟨S_, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S2048, .i32⟩
  | 26 => ⟨S2048, .i32⟩
  | 27 => ⟨S_, .i32⟩
  | 28 => ⟨S2048, .i32⟩
  | 29 => ⟨S2048, .i1⟩
  | 30 => ⟨S2048, .i1⟩
  | 31 => ⟨S_, .i32⟩
  | 32 => ⟨S2048, .i32⟩
  | 33 => ⟨S2048, .i32⟩
  | 34 => ⟨S2048, .i32⟩
  | 35 => ⟨S_, .i32⟩
  | 36 => ⟨S2048, .i32⟩
  | 37 => ⟨S2048, .i32⟩
  | 38 => ⟨S_, .i32⟩
  | 39 => ⟨S_, .i32⟩
  | 40 => ⟨S2048, .i32⟩
  | 41 => ⟨S2048, .i32⟩
  | 42 => ⟨S2048, .i32⟩
  | 43 => ⟨S_, .i32⟩
  | 44 => ⟨S2048, .i32⟩
  | 45 => ⟨S2048, .i1⟩
  | 46 => ⟨S2048, .i32⟩
  | 47 => ⟨S2048, .i32⟩
  | 48 => ⟨S_, .i32⟩
  | 49 => ⟨S2048, .i32⟩
  | 50 => ⟨S2048, .i1⟩
  | 51 => ⟨S2048, .i1⟩
  | 52 => ⟨S_, .i32⟩
  | 53 => ⟨S2048, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .i32⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i1⟩
  | 73 => ⟨S2048x1, .i1⟩
  | 74 => ⟨S1x2048, .i1⟩
  | 75 => ⟨S2048x2048, .i1⟩
  | 76 => ⟨S2048x2048, .i1⟩
  | 77 => ⟨S2048x2048, .i1⟩
  | 78 => ⟨S2048x1, .i32⟩
  | 79 => ⟨S1x2048, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i32⟩
  | 86 => ⟨S2048x1, .i32⟩
  | 87 => ⟨S_, .i32⟩
  | 88 => ⟨S1x2048, .i32⟩
  | 89 => ⟨S1x2048, .i1⟩
  | 90 => ⟨S_, .i32⟩
  | 91 => ⟨S1x2048, .i32⟩
  | 92 => ⟨S1x2048, .i32⟩
  | 93 => ⟨S1x2048, .i32⟩
  | 94 => ⟨S2048x2048, .i32⟩
  | 95 => ⟨S2048x2048, .i32⟩
  | 96 => ⟨S2048x2048x1, .i32⟩
  | 97 => ⟨S2048x2048x1, .i32⟩
  | 98 => ⟨S2048x2048x2, .i32⟩
  | 99 => ⟨S2048x2048, .f32⟩
  | 100 => ⟨S2048x2048, .f32⟩
  | 101 => ⟨S1023, .i32⟩
  | 102 => ⟨S_, .i32⟩
  | 103 => ⟨S1023, .i32⟩
  | 104 => ⟨S1023, .i32⟩
  | 105 => ⟨S1023, .i32⟩
  | 106 => ⟨S_, .i32⟩
  | 107 => ⟨S1023, .i32⟩
  | 108 => ⟨S1023, .i32⟩
  | 109 => ⟨S1023x1, .i32⟩
  | 110 => ⟨S3, .i32⟩
  | 111 => ⟨S1x3, .i32⟩
  | 112 => ⟨S1023x3, .i32⟩
  | 113 => ⟨S1023x3, .i32⟩
  | 114 => ⟨S1023x3, .i32⟩
  | 115 => ⟨S1023x1, .i32⟩
  | 116 => ⟨S3, .i32⟩
  | 117 => ⟨S1x3, .i32⟩
  | 118 => ⟨S1023x3, .i32⟩
  | 119 => ⟨S1023x3, .i32⟩
  | 120 => ⟨S1023x3, .i32⟩
  | 121 => ⟨S1023x1x3x1, .i32⟩
  | 122 => ⟨S1x1023x1x3, .i32⟩
  | 123 => ⟨S_, .i32⟩
  | 124 => ⟨S1023x1x3x1, .i32⟩
  | 125 => ⟨S1023x1x3x1, .i1⟩
  | 126 => ⟨S_, .i32⟩
  | 127 => ⟨S1023x1x3x1, .i32⟩
  | _ => ⟨S2048x2048, .f32⟩

abbrev hbmTy0_5 (i : Nat) : BufTy := match i % 128 with
  | 0 => ⟨S1023x1x3x1, .i32⟩
  | 1 => ⟨S1023x1x3x1, .i32⟩
  | 2 => ⟨S_, .i32⟩
  | 3 => ⟨S1x1023x1x3, .i32⟩
  | 4 => ⟨S1x1023x1x3, .i1⟩
  | 5 => ⟨S_, .i32⟩
  | 6 => ⟨S1x1023x1x3, .i32⟩
  | 7 => ⟨S1x1023x1x3, .i32⟩
  | 8 => ⟨S1x1023x1x3, .i32⟩
  | 9 => ⟨S1023x1023x3x3, .i32⟩
  | 10 => ⟨S1023x1023x3x3, .i32⟩
  | 11 => ⟨S1023x1023x3x3x1, .i32⟩
  | 12 => ⟨S1023x1023x3x3x1, .i32⟩
  | 13 => ⟨S1023x1023x3x3x2, .i32⟩
  | 14 => ⟨S1023x1023x3x3, .f32⟩
  | 15 => ⟨S1023x1023x9, .f32⟩
  | 16 => ⟨S1023, .i32⟩
  | 17 => ⟨S_, .i32⟩
  | 18 => ⟨S1023, .i32⟩
  | 19 => ⟨S1023, .i32⟩
  | 20 => ⟨S1023, .i32⟩
  | 21 => ⟨S_, .i32⟩
  | 22 => ⟨S1023, .i32⟩
  | 23 => ⟨S1023, .i32⟩
  | 24 => ⟨S1023x1, .i32⟩
  | 25 => ⟨S3, .i32⟩
  | 26 => ⟨S1x3, .i32⟩
  | 27 => ⟨S1023x3, .i32⟩
  | 28 => ⟨S1023x3, .i32⟩
  | 29 => ⟨S1023x3, .i32⟩
  | 30 => ⟨S1023x1, .i32⟩
  | 31 => ⟨S3, .i32⟩
  | 32 => ⟨S1x3, .i32⟩
  | 33 => ⟨S1023x3, .i32⟩
  | 34 => ⟨S1023x3, .i32⟩
  | 35 => ⟨S1023x3, .i32⟩
  | 36 => ⟨S1023x1x3x1, .i32⟩
  | 37 => ⟨S1x1023x1x3, .i32⟩
  | 38 => ⟨S_, .i32⟩
  | 39 => ⟨S1023x1x3x1, .i32⟩
  | 40 => ⟨S1023x1x3x1, .i1⟩
  | 41 => ⟨S_, .i32⟩
  | 42 => ⟨S1023x1x3x1, .i32⟩
  | 43 => ⟨S1023x1x3x1, .i32⟩
  | 44 => ⟨S1023x1x3x1, .i32⟩
  | 45 => ⟨S_, .i32⟩
  | 46 => ⟨S1x1023x1x3, .i32⟩
  | 47 => ⟨S1x1023x1x3, .i1⟩
  | 48 => ⟨S_, .i32⟩
  | 49 => ⟨S1x1023x1x3, .i32⟩
  | 50 => ⟨S1x1023x1x3, .i32⟩
  | 51 => ⟨S1x1023x1x3, .i32⟩
  | 52 => ⟨S1023x1023x3x3, .i32⟩
  | 53 => ⟨S1023x1023x3x3, .i32⟩
  | 54 => ⟨S1023x1023x3x3x1, .i32⟩
  | 55 => ⟨S1023x1023x3x3x1, .i32⟩
  | 56 => ⟨S1023x1023x3x3x2, .i32⟩
  | 57 => ⟨S1023x1023x3x3, .f32⟩
  | 58 => ⟨S1023x1023x9, .f32⟩
  | 59 => ⟨S1023x1023x9, .f32⟩
  | 60 => ⟨S1023x1023x9, .f32⟩
  | 61 => ⟨S1023x1023x9, .i32⟩
  | 62 => ⟨S_, .f32⟩
  | 63 => ⟨S_, .i32⟩
  | 64 => ⟨S1023x1023, .f32⟩
  | 65 => ⟨S1023x1023, .i32⟩
  | 66 => ⟨S1023x1023x1, .i32⟩
  | 67 => ⟨S_, .i32⟩
  | 68 => ⟨S1023x1023x1, .i32⟩
  | 69 => ⟨S1023x1023x1, .i1⟩
  | 70 => ⟨S_, .i32⟩
  | 71 => ⟨S1023x1023x1, .i32⟩
  | 72 => ⟨S1023x1023x1, .i32⟩
  | 73 => ⟨S1023x1023x1, .i32⟩
  | 74 => ⟨S1023x1023x1x1, .i32⟩
  | 75 => ⟨S1, .i32⟩
  | 76 => ⟨S_, .i32⟩
  | 77 => ⟨S1023x1023x1x1, .i32⟩
  | 78 => ⟨S1023x1023x1x1, .i1⟩
  | 79 => ⟨S1x1x1x1, .i32⟩
  | 80 => ⟨S1023x1023x1x1, .i32⟩
  | 81 => ⟨S1023x1023x1x1, .i1⟩
  | 82 => ⟨S1023x1023x1x1, .i1⟩
  | 83 => ⟨S_, .i1⟩
  | 84 => ⟨S1023x1023x1, .i1⟩
  | 85 => ⟨S1023x1023x1, .f32⟩
  | 86 => ⟨S_, .f32⟩
  | 87 => ⟨S1023x1023x1, .f32⟩
  | 88 => ⟨S1023x1023x1, .f32⟩
  | 89 => ⟨S1023x1023, .f32⟩
  | 90 => ⟨S2048, .i32⟩
  | 91 => ⟨S2048, .i32⟩
  | 92 => ⟨S_, .i32⟩
  | 93 => ⟨S_, .i32⟩
  | 94 => ⟨S2048, .i32⟩
  | 95 => ⟨S2048, .i32⟩
  | 96 => ⟨S2048, .i32⟩
  | 97 => ⟨S_, .i32⟩
  | 98 => ⟨S2048, .i32⟩
  | 99 => ⟨S2048, .i1⟩
  | 100 => ⟨S2048, .i32⟩
  | 101 => ⟨S2048, .i32⟩
  | 102 => ⟨S_, .i32⟩
  | 103 => ⟨S2048, .i32⟩
  | 104 => ⟨S2048, .i1⟩
  | 105 => ⟨S2048, .i1⟩
  | 106 => ⟨S_, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i32⟩
  | 113 => ⟨S_, .i32⟩
  | 114 => ⟨S_, .i32⟩
  | 115 => ⟨S2048, .i32⟩
  | 116 => ⟨S2048, .i32⟩
  | 117 => ⟨S2048, .i32⟩
  | 118 => ⟨S_, .i32⟩
  | 119 => ⟨S2048, .i32⟩
  | 120 => ⟨S2048, .i1⟩
  | 121 => ⟨S2048, .i32⟩
  | 122 => ⟨S2048, .i32⟩
  | 123 => ⟨S_, .i32⟩
  | 124 => ⟨S2048, .i32⟩
  | 125 => ⟨S2048, .i1⟩
  | 126 => ⟨S2048, .i1⟩
  | 127 => ⟨S_, .i32⟩
  | _ => ⟨S2048x2048, .f32⟩

abbrev hbmTy0_6 (i : Nat) : BufTy := match i % 128 with
  | 0 => ⟨S2048, .i32⟩
  | 1 => ⟨S2048, .i32⟩
  | 2 => ⟨S2048, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S_, .i32⟩
  | 18 => ⟨S2048, .i32⟩
  | 19 => ⟨S2048, .i1⟩
  | 20 => ⟨S2048x1, .i1⟩
  | 21 => ⟨S1x2048, .i1⟩
  | 22 => ⟨S2048x2048, .i1⟩
  | 23 => ⟨S2048x2048, .i1⟩
  | 24 => ⟨S2048x2048, .i1⟩
  | 25 => ⟨S2048x1, .i32⟩
  | 26 => ⟨S1x2048, .i32⟩
  | 27 => ⟨S_, .i32⟩
  | 28 => ⟨S2048x1, .i32⟩
  | 29 => ⟨S2048x1, .i1⟩
  | 30 => ⟨S_, .i32⟩
  | 31 => ⟨S2048x1, .i32⟩
  | 32 => ⟨S2048x1, .i32⟩
  | 33 => ⟨S2048x1, .i32⟩
  | 34 => ⟨S_, .i32⟩
  | 35 => ⟨S1x2048, .i32⟩
  | 36 => ⟨S1x2048, .i1⟩
  | 37 => ⟨S_, .i32⟩
  | 38 => ⟨S1x2048, .i32⟩
  | 39 => ⟨S1x2048, .i32⟩
  | 40 => ⟨S1x2048, .i32⟩
  | 41 => ⟨S2048x2048, .i32⟩
  | 42 => ⟨S2048x2048, .i32⟩
  | 43 => ⟨S2048x2048x1, .i32⟩
  | 44 => ⟨S2048x2048x1, .i32⟩
  | 45 => ⟨S2048x2048x2, .i32⟩
  | 46 => ⟨S2048x2048, .f32⟩
  | 47 => ⟨S2048x2048, .f32⟩
  | 48 => ⟨S2048x2048, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_v0 : Ref sig .tc := ⟨.hbm, 3, rfl⟩
abbrev main_call0_call0_c : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_c_0 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_call0_v12 : Ref sig .tc := ⟨.hbm, 17, rfl⟩
abbrev main_call0_call0_v13 : Ref sig .tc := ⟨.hbm, 18, rfl⟩
abbrev main_call0_call0_v14 : Ref sig .tc := ⟨.hbm, 19, rfl⟩
abbrev main_call0_call0_v15 : Ref sig .tc := ⟨.hbm, 20, rfl⟩
abbrev main_call0_call0_v16 : Ref sig .tc := ⟨.hbm, 21, rfl⟩
abbrev main_call0_call0_v17 : Ref sig .tc := ⟨.hbm, 22, rfl⟩
abbrev main_call0_call0_v18 : Ref sig .tc := ⟨.hbm, 23, rfl⟩
abbrev main_call0_call0_v19 : Ref sig .tc := ⟨.hbm, 24, rfl⟩
abbrev main_call0_call0_c_1 : Ref sig .tc := ⟨.hbm, 25, rfl⟩
abbrev main_call0_call0_v20 : Ref sig .tc := ⟨.hbm, 26, rfl⟩
abbrev main_call0_call0_v21 : Ref sig .tc := ⟨.hbm, 27, rfl⟩
abbrev main_call0_call0_c_2 : Ref sig .tc := ⟨.hbm, 28, rfl⟩
abbrev main_call0_call0_v22 : Ref sig .tc := ⟨.hbm, 29, rfl⟩
abbrev main_call0_call0_v23 : Ref sig .tc := ⟨.hbm, 30, rfl⟩
abbrev main_call0_call0_v24 : Ref sig .tc := ⟨.hbm, 31, rfl⟩
abbrev main_call0_call0_c_3 : Ref sig .tc := ⟨.hbm, 32, rfl⟩
abbrev main_call0_call0_v25 : Ref sig .tc := ⟨.hbm, 33, rfl⟩
abbrev main_call0_call0_v26 : Ref sig .tc := ⟨.hbm, 34, rfl⟩
abbrev main_call0_call0_c_4 : Ref sig .tc := ⟨.hbm, 35, rfl⟩
abbrev main_call0_call0_v27 : Ref sig .tc := ⟨.hbm, 36, rfl⟩
abbrev main_call0_call0_v28 : Ref sig .tc := ⟨.hbm, 37, rfl⟩
abbrev main_call0_call0_v29 : Ref sig .tc := ⟨.hbm, 38, rfl⟩
abbrev main_call0_call0_v30 : Ref sig .tc := ⟨.hbm, 39, rfl⟩
abbrev main_call0_call0_v31 : Ref sig .tc := ⟨.hbm, 40, rfl⟩
abbrev main_call0_call0_v32 : Ref sig .tc := ⟨.hbm, 41, rfl⟩
abbrev main_call0_call0_v33 : Ref sig .tc := ⟨.hbm, 42, rfl⟩
abbrev main_call0_call0_v34 : Ref sig .tc := ⟨.hbm, 43, rfl⟩
abbrev main_call0_call0_v35 : Ref sig .tc := ⟨.hbm, 44, rfl⟩
abbrev main_call0_v0 : Ref sig .tc := ⟨.hbm, 45, rfl⟩
abbrev main_call0_call1_v0 : Ref sig .tc := ⟨.hbm, 46, rfl⟩
abbrev main_call0_call1_c : Ref sig .tc := ⟨.hbm, 47, rfl⟩
abbrev main_call0_call1_v1 : Ref sig .tc := ⟨.hbm, 48, rfl⟩
abbrev main_call0_call1_v2 : Ref sig .tc := ⟨.hbm, 49, rfl⟩
abbrev main_call0_call1_v3 : Ref sig .tc := ⟨.hbm, 50, rfl⟩
abbrev main_call0_call1_c_0 : Ref sig .tc := ⟨.hbm, 51, rfl⟩
abbrev main_call0_call1_v4 : Ref sig .tc := ⟨.hbm, 52, rfl⟩
abbrev main_call0_call1_v5 : Ref sig .tc := ⟨.hbm, 53, rfl⟩
abbrev main_call0_call1_v6 : Ref sig .tc := ⟨.hbm, 54, rfl⟩
abbrev main_call0_call1_v7 : Ref sig .tc := ⟨.hbm, 55, rfl⟩
abbrev main_call0_call1_v8 : Ref sig .tc := ⟨.hbm, 56, rfl⟩
abbrev main_call0_call1_v9 : Ref sig .tc := ⟨.hbm, 57, rfl⟩
abbrev main_call0_call1_v10 : Ref sig .tc := ⟨.hbm, 58, rfl⟩
abbrev main_call0_call1_v11 : Ref sig .tc := ⟨.hbm, 59, rfl⟩
abbrev main_call0_call1_v12 : Ref sig .tc := ⟨.hbm, 60, rfl⟩
abbrev main_call0_call1_v13 : Ref sig .tc := ⟨.hbm, 61, rfl⟩
abbrev main_call0_call1_v14 : Ref sig .tc := ⟨.hbm, 62, rfl⟩
abbrev main_call0_call1_v15 : Ref sig .tc := ⟨.hbm, 63, rfl⟩
abbrev main_call0_call1_v16 : Ref sig .tc := ⟨.hbm, 64, rfl⟩
abbrev main_call0_call1_v17 : Ref sig .tc := ⟨.hbm, 65, rfl⟩
abbrev main_call0_call1_v18 : Ref sig .tc := ⟨.hbm, 66, rfl⟩
abbrev main_call0_call1_v19 : Ref sig .tc := ⟨.hbm, 67, rfl⟩
abbrev main_call0_call1_c_1 : Ref sig .tc := ⟨.hbm, 68, rfl⟩
abbrev main_call0_call1_v20 : Ref sig .tc := ⟨.hbm, 69, rfl⟩
abbrev main_call0_call1_v21 : Ref sig .tc := ⟨.hbm, 70, rfl⟩
abbrev main_call0_call1_c_2 : Ref sig .tc := ⟨.hbm, 71, rfl⟩
abbrev main_call0_call1_v22 : Ref sig .tc := ⟨.hbm, 72, rfl⟩
abbrev main_call0_call1_v23 : Ref sig .tc := ⟨.hbm, 73, rfl⟩
abbrev main_call0_call1_v24 : Ref sig .tc := ⟨.hbm, 74, rfl⟩
abbrev main_call0_call1_c_3 : Ref sig .tc := ⟨.hbm, 75, rfl⟩
abbrev main_call0_call1_v25 : Ref sig .tc := ⟨.hbm, 76, rfl⟩
abbrev main_call0_call1_v26 : Ref sig .tc := ⟨.hbm, 77, rfl⟩
abbrev main_call0_call1_c_4 : Ref sig .tc := ⟨.hbm, 78, rfl⟩
abbrev main_call0_call1_v27 : Ref sig .tc := ⟨.hbm, 79, rfl⟩
abbrev main_call0_call1_v28 : Ref sig .tc := ⟨.hbm, 80, rfl⟩
abbrev main_call0_call1_v29 : Ref sig .tc := ⟨.hbm, 81, rfl⟩
abbrev main_call0_call1_v30 : Ref sig .tc := ⟨.hbm, 82, rfl⟩
abbrev main_call0_call1_v31 : Ref sig .tc := ⟨.hbm, 83, rfl⟩
abbrev main_call0_call1_v32 : Ref sig .tc := ⟨.hbm, 84, rfl⟩
abbrev main_call0_call1_v33 : Ref sig .tc := ⟨.hbm, 85, rfl⟩
abbrev main_call0_call1_v34 : Ref sig .tc := ⟨.hbm, 86, rfl⟩
abbrev main_call0_call1_v35 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_call2_v0 : Ref sig .tc := ⟨.hbm, 91, rfl⟩
abbrev main_call0_call2_cst : Ref sig .tc := ⟨.hbm, 92, rfl⟩
abbrev main_call0_call2_c : Ref sig .tc := ⟨.hbm, 93, rfl⟩
abbrev main_call0_call2_v1_0 : Ref sig .tc := ⟨.hbm, 94, rfl⟩
abbrev main_call0_v4 : Ref sig .tc := ⟨.hbm, 95, rfl⟩
abbrev main_call0_v5 : Ref sig .tc := ⟨.hbm, 96, rfl⟩
abbrev main_call0_call3_c : Ref sig .tc := ⟨.hbm, 97, rfl⟩
abbrev main_call0_call3_v0 : Ref sig .tc := ⟨.hbm, 98, rfl⟩
abbrev main_call0_call3_v1 : Ref sig .tc := ⟨.hbm, 99, rfl⟩
abbrev main_call0_call3_c_0 : Ref sig .tc := ⟨.hbm, 100, rfl⟩
abbrev main_call0_call3_v2 : Ref sig .tc := ⟨.hbm, 101, rfl⟩
abbrev main_call0_call3_v3 : Ref sig .tc := ⟨.hbm, 102, rfl⟩
abbrev main_call0_call3_v4 : Ref sig .tc := ⟨.hbm, 103, rfl⟩
abbrev main_call0_call3_v5 : Ref sig .tc := ⟨.hbm, 104, rfl⟩
abbrev main_call0_call3_c_1 : Ref sig .tc := ⟨.hbm, 105, rfl⟩
abbrev main_call0_call3_c_2 : Ref sig .tc := ⟨.hbm, 106, rfl⟩
abbrev main_call0_call3_v6 : Ref sig .tc := ⟨.hbm, 107, rfl⟩
abbrev main_call0_call3_v7 : Ref sig .tc := ⟨.hbm, 108, rfl⟩
abbrev main_call0_call3_v8 : Ref sig .tc := ⟨.hbm, 109, rfl⟩
abbrev main_call0_call3_v9 : Ref sig .tc := ⟨.hbm, 110, rfl⟩
abbrev main_call0_call3_v10 : Ref sig .tc := ⟨.hbm, 111, rfl⟩
abbrev main_call0_call3_v11 : Ref sig .tc := ⟨.hbm, 112, rfl⟩
abbrev main_call0_call3_c_3 : Ref sig .tc := ⟨.hbm, 113, rfl⟩
abbrev main_call0_call3_v12 : Ref sig .tc := ⟨.hbm, 114, rfl⟩
abbrev main_call0_call3_v13 : Ref sig .tc := ⟨.hbm, 115, rfl⟩
abbrev main_call0_call3_cst : Ref sig .tc := ⟨.hbm, 116, rfl⟩
abbrev main_call0_call3_v14 : Ref sig .tc := ⟨.hbm, 117, rfl⟩
abbrev main_call0_v6 : Ref sig .tc := ⟨.hbm, 118, rfl⟩
abbrev main_call0_v7 : Ref sig .tc := ⟨.hbm, 119, rfl⟩
abbrev main_call0_call4_v0 : Ref sig .tc := ⟨.hbm, 120, rfl⟩
abbrev main_call0_call4_v1 : Ref sig .tc := ⟨.hbm, 121, rfl⟩
abbrev main_call0_call4_c : Ref sig .tc := ⟨.hbm, 122, rfl⟩
abbrev main_call0_call4_call0_v0 : Ref sig .tc := ⟨.hbm, 123, rfl⟩
abbrev main_call0_call4_call0_v1 : Ref sig .tc := ⟨.hbm, 124, rfl⟩
abbrev main_call0_call4_call0_v2 : Ref sig .tc := ⟨.hbm, 125, rfl⟩
abbrev main_call0_call4_call0_v3 : Ref sig .tc := ⟨.hbm, 126, rfl⟩
abbrev main_call0_call4_call0_v4 : Ref sig .tc := ⟨.hbm, 127, rfl⟩
abbrev main_call0_call4_call0_v5 : Ref sig .tc := ⟨.hbm, 128, rfl⟩
abbrev main_call0_call4_call0_v6 : Ref sig .tc := ⟨.hbm, 129, rfl⟩
abbrev main_call0_call4_call0_v7 : Ref sig .tc := ⟨.hbm, 130, rfl⟩
abbrev main_call0_call4_call0_v8 : Ref sig .tc := ⟨.hbm, 131, rfl⟩
abbrev main_call0_call4_call0_c : Ref sig .tc := ⟨.hbm, 132, rfl⟩
abbrev main_call0_call4_call0_v9 : Ref sig .tc := ⟨.hbm, 133, rfl⟩
abbrev main_call0_call4_call0_v10 : Ref sig .tc := ⟨.hbm, 134, rfl⟩
abbrev main_call0_call4_call0_v11 : Ref sig .tc := ⟨.hbm, 135, rfl⟩
abbrev main_call0_call4_call0_c_0 : Ref sig .tc := ⟨.hbm, 136, rfl⟩
abbrev main_call0_call4_call0_v12 : Ref sig .tc := ⟨.hbm, 137, rfl⟩
abbrev main_call0_call4_call0_v13 : Ref sig .tc := ⟨.hbm, 138, rfl⟩
abbrev main_call0_call4_v2 : Ref sig .tc := ⟨.hbm, 139, rfl⟩
abbrev main_call0_call4_c_0 : Ref sig .tc := ⟨.hbm, 140, rfl⟩
abbrev main_call0_call4_v3 : Ref sig .tc := ⟨.hbm, 141, rfl⟩
abbrev main_call0_call4_v4 : Ref sig .tc := ⟨.hbm, 142, rfl⟩
abbrev main_call0_call4_c_1 : Ref sig .tc := ⟨.hbm, 143, rfl⟩
abbrev main_call0_call4_call1_v0 : Ref sig .tc := ⟨.hbm, 144, rfl⟩
abbrev main_call0_call4_call1_v1 : Ref sig .tc := ⟨.hbm, 145, rfl⟩
abbrev main_call0_call4_call1_v2 : Ref sig .tc := ⟨.hbm, 146, rfl⟩
abbrev main_call0_call4_call1_v3 : Ref sig .tc := ⟨.hbm, 147, rfl⟩
abbrev main_call0_call4_call1_v4 : Ref sig .tc := ⟨.hbm, 148, rfl⟩
abbrev main_call0_call4_call1_v5 : Ref sig .tc := ⟨.hbm, 149, rfl⟩
abbrev main_call0_call4_call1_v6 : Ref sig .tc := ⟨.hbm, 150, rfl⟩
abbrev main_call0_call4_call1_v7 : Ref sig .tc := ⟨.hbm, 151, rfl⟩
abbrev main_call0_call4_call1_v8 : Ref sig .tc := ⟨.hbm, 152, rfl⟩
abbrev main_call0_call4_call1_c : Ref sig .tc := ⟨.hbm, 153, rfl⟩
abbrev main_call0_call4_call1_v9 : Ref sig .tc := ⟨.hbm, 154, rfl⟩
abbrev main_call0_call4_call1_v10 : Ref sig .tc := ⟨.hbm, 155, rfl⟩
abbrev main_call0_call4_call1_v11 : Ref sig .tc := ⟨.hbm, 156, rfl⟩
abbrev main_call0_call4_call1_c_0 : Ref sig .tc := ⟨.hbm, 157, rfl⟩
abbrev main_call0_call4_call1_v12 : Ref sig .tc := ⟨.hbm, 158, rfl⟩
abbrev main_call0_call4_call1_v13 : Ref sig .tc := ⟨.hbm, 159, rfl⟩
abbrev main_call0_call4_v5 : Ref sig .tc := ⟨.hbm, 160, rfl⟩
abbrev main_call0_call4_c_2 : Ref sig .tc := ⟨.hbm, 161, rfl⟩
abbrev main_call0_call4_v6 : Ref sig .tc := ⟨.hbm, 162, rfl⟩
abbrev main_call0_call4_v7 : Ref sig .tc := ⟨.hbm, 163, rfl⟩
abbrev main_call0_call4_c_3 : Ref sig .tc := ⟨.hbm, 164, rfl⟩
abbrev main_call0_call4_v8 : Ref sig .tc := ⟨.hbm, 165, rfl⟩
abbrev main_call0_call4_v9 : Ref sig .tc := ⟨.hbm, 166, rfl⟩
abbrev main_call0_call4_v10 : Ref sig .tc := ⟨.hbm, 167, rfl⟩
abbrev main_call0_call4_c_4 : Ref sig .tc := ⟨.hbm, 168, rfl⟩
abbrev main_call0_call4_v11 : Ref sig .tc := ⟨.hbm, 169, rfl⟩
abbrev main_call0_call4_v12 : Ref sig .tc := ⟨.hbm, 170, rfl⟩
abbrev main_call0_call4_c_5 : Ref sig .tc := ⟨.hbm, 171, rfl⟩
abbrev main_call0_call4_v13 : Ref sig .tc := ⟨.hbm, 172, rfl⟩
abbrev main_call0_call4_v14 : Ref sig .tc := ⟨.hbm, 173, rfl⟩
abbrev main_call0_call4_v15 : Ref sig .tc := ⟨.hbm, 174, rfl⟩
abbrev main_call0_call4_c_6 : Ref sig .tc := ⟨.hbm, 175, rfl⟩
abbrev main_call0_call4_v16 : Ref sig .tc := ⟨.hbm, 176, rfl⟩
abbrev main_call0_call4_v17 : Ref sig .tc := ⟨.hbm, 177, rfl⟩
abbrev main_call0_call4_v18 : Ref sig .tc := ⟨.hbm, 178, rfl⟩
abbrev main_call0_call4_v19 : Ref sig .tc := ⟨.hbm, 179, rfl⟩
abbrev main_call0_call4_v20 : Ref sig .tc := ⟨.hbm, 180, rfl⟩
abbrev main_call0_call4_v21 : Ref sig .tc := ⟨.hbm, 181, rfl⟩
abbrev main_call0_call4_v22 : Ref sig .tc := ⟨.hbm, 182, rfl⟩
abbrev main_call0_call4_v23 : Ref sig .tc := ⟨.hbm, 183, rfl⟩
abbrev main_call0_call4_v24 : Ref sig .tc := ⟨.hbm, 184, rfl⟩
abbrev main_call0_call4_c_7 : Ref sig .tc := ⟨.hbm, 185, rfl⟩
abbrev main_call0_call4_v25 : Ref sig .tc := ⟨.hbm, 186, rfl⟩
abbrev main_call0_call4_v26 : Ref sig .tc := ⟨.hbm, 187, rfl⟩
abbrev main_call0_call4_c_8 : Ref sig .tc := ⟨.hbm, 188, rfl⟩
abbrev main_call0_call4_v27 : Ref sig .tc := ⟨.hbm, 189, rfl⟩
abbrev main_call0_call4_v28 : Ref sig .tc := ⟨.hbm, 190, rfl⟩
abbrev main_call0_call4_v29 : Ref sig .tc := ⟨.hbm, 191, rfl⟩
abbrev main_call0_call4_c_9 : Ref sig .tc := ⟨.hbm, 192, rfl⟩
abbrev main_call0_call4_v30 : Ref sig .tc := ⟨.hbm, 193, rfl⟩
abbrev main_call0_call4_v31 : Ref sig .tc := ⟨.hbm, 194, rfl⟩
abbrev main_call0_call4_c_10 : Ref sig .tc := ⟨.hbm, 195, rfl⟩
abbrev main_call0_call4_v32 : Ref sig .tc := ⟨.hbm, 196, rfl⟩
abbrev main_call0_call4_v33 : Ref sig .tc := ⟨.hbm, 197, rfl⟩
abbrev main_call0_call4_v34 : Ref sig .tc := ⟨.hbm, 198, rfl⟩
abbrev main_call0_call4_v35 : Ref sig .tc := ⟨.hbm, 199, rfl⟩
abbrev main_call0_call4_v36 : Ref sig .tc := ⟨.hbm, 200, rfl⟩
abbrev main_call0_call4_v37 : Ref sig .tc := ⟨.hbm, 201, rfl⟩
abbrev main_call0_call4_v38 : Ref sig .tc := ⟨.hbm, 202, rfl⟩
abbrev main_call0_call4_v39 : Ref sig .tc := ⟨.hbm, 203, rfl⟩
abbrev main_call0_call4_v40 : Ref sig .tc := ⟨.hbm, 204, rfl⟩
abbrev main_v0 : Ref sig .tc := ⟨.hbm, 205, rfl⟩
abbrev main_call1_call0_v0 : Ref sig .tc := ⟨.hbm, 206, rfl⟩
abbrev main_call1_call0_c : Ref sig .tc := ⟨.hbm, 207, rfl⟩
abbrev main_call1_call0_v1 : Ref sig .tc := ⟨.hbm, 208, rfl⟩
abbrev main_call1_call0_v2 : Ref sig .tc := ⟨.hbm, 209, rfl⟩
abbrev main_call1_call0_v3 : Ref sig .tc := ⟨.hbm, 210, rfl⟩
abbrev main_call1_call0_c_0 : Ref sig .tc := ⟨.hbm, 211, rfl⟩
abbrev main_call1_call0_v4 : Ref sig .tc := ⟨.hbm, 212, rfl⟩
abbrev main_call1_call0_v5 : Ref sig .tc := ⟨.hbm, 213, rfl⟩
abbrev main_call1_call0_v6 : Ref sig .tc := ⟨.hbm, 214, rfl⟩
abbrev main_call1_call0_v7 : Ref sig .tc := ⟨.hbm, 215, rfl⟩
abbrev main_call1_call0_v8 : Ref sig .tc := ⟨.hbm, 216, rfl⟩
abbrev main_call1_call0_v9 : Ref sig .tc := ⟨.hbm, 217, rfl⟩
abbrev main_call1_call0_v10 : Ref sig .tc := ⟨.hbm, 218, rfl⟩
abbrev main_call1_call0_v11 : Ref sig .tc := ⟨.hbm, 219, rfl⟩
abbrev main_call1_call0_v12 : Ref sig .tc := ⟨.hbm, 220, rfl⟩
abbrev main_call1_call0_v13 : Ref sig .tc := ⟨.hbm, 221, rfl⟩
abbrev main_call1_call0_v14 : Ref sig .tc := ⟨.hbm, 222, rfl⟩
abbrev main_call1_call0_v15 : Ref sig .tc := ⟨.hbm, 223, rfl⟩
abbrev main_call1_call0_v16 : Ref sig .tc := ⟨.hbm, 224, rfl⟩
abbrev main_call1_call0_v17 : Ref sig .tc := ⟨.hbm, 225, rfl⟩
abbrev main_call1_call0_v18 : Ref sig .tc := ⟨.hbm, 226, rfl⟩
abbrev main_call1_call0_v19 : Ref sig .tc := ⟨.hbm, 227, rfl⟩
abbrev main_call1_call0_c_1 : Ref sig .tc := ⟨.hbm, 228, rfl⟩
abbrev main_call1_call0_v20 : Ref sig .tc := ⟨.hbm, 229, rfl⟩
abbrev main_call1_call0_v21 : Ref sig .tc := ⟨.hbm, 230, rfl⟩
abbrev main_call1_call0_c_2 : Ref sig .tc := ⟨.hbm, 231, rfl⟩
abbrev main_call1_call0_v22 : Ref sig .tc := ⟨.hbm, 232, rfl⟩
abbrev main_call1_call0_v23 : Ref sig .tc := ⟨.hbm, 233, rfl⟩
abbrev main_call1_call0_v24 : Ref sig .tc := ⟨.hbm, 234, rfl⟩
abbrev main_call1_call0_c_3 : Ref sig .tc := ⟨.hbm, 235, rfl⟩
abbrev main_call1_call0_v25 : Ref sig .tc := ⟨.hbm, 236, rfl⟩
abbrev main_call1_call0_v26 : Ref sig .tc := ⟨.hbm, 237, rfl⟩
abbrev main_call1_call0_c_4 : Ref sig .tc := ⟨.hbm, 238, rfl⟩
abbrev main_call1_call0_v27 : Ref sig .tc := ⟨.hbm, 239, rfl⟩
abbrev main_call1_call0_v28 : Ref sig .tc := ⟨.hbm, 240, rfl⟩
abbrev main_call1_call0_v29 : Ref sig .tc := ⟨.hbm, 241, rfl⟩
abbrev main_call1_call0_v30 : Ref sig .tc := ⟨.hbm, 242, rfl⟩
abbrev main_call1_call0_v31 : Ref sig .tc := ⟨.hbm, 243, rfl⟩
abbrev main_call1_call0_v32 : Ref sig .tc := ⟨.hbm, 244, rfl⟩
abbrev main_call1_call0_v33 : Ref sig .tc := ⟨.hbm, 245, rfl⟩
abbrev main_call1_call0_v34 : Ref sig .tc := ⟨.hbm, 246, rfl⟩
abbrev main_call1_call0_v35 : Ref sig .tc := ⟨.hbm, 247, rfl⟩
abbrev main_call1_v0 : Ref sig .tc := ⟨.hbm, 248, rfl⟩
abbrev main_call1_call1_v0 : Ref sig .tc := ⟨.hbm, 249, rfl⟩
abbrev main_call1_call1_c : Ref sig .tc := ⟨.hbm, 250, rfl⟩
abbrev main_call1_call1_v1 : Ref sig .tc := ⟨.hbm, 251, rfl⟩
abbrev main_call1_call1_v2 : Ref sig .tc := ⟨.hbm, 252, rfl⟩
abbrev main_call1_call1_v3 : Ref sig .tc := ⟨.hbm, 253, rfl⟩
abbrev main_call1_call1_c_0 : Ref sig .tc := ⟨.hbm, 254, rfl⟩
abbrev main_call1_call1_v4 : Ref sig .tc := ⟨.hbm, 255, rfl⟩
abbrev main_call1_call1_v5 : Ref sig .tc := ⟨.hbm, 256, rfl⟩
abbrev main_call1_call1_v6 : Ref sig .tc := ⟨.hbm, 257, rfl⟩
abbrev main_call1_call1_v7 : Ref sig .tc := ⟨.hbm, 258, rfl⟩
abbrev main_call1_call1_v8 : Ref sig .tc := ⟨.hbm, 259, rfl⟩
abbrev main_call1_call1_v9 : Ref sig .tc := ⟨.hbm, 260, rfl⟩
abbrev main_call1_call1_v10 : Ref sig .tc := ⟨.hbm, 261, rfl⟩
abbrev main_call1_call1_v11 : Ref sig .tc := ⟨.hbm, 262, rfl⟩
abbrev main_call1_call1_v12 : Ref sig .tc := ⟨.hbm, 263, rfl⟩
abbrev main_call1_call1_v13 : Ref sig .tc := ⟨.hbm, 264, rfl⟩
abbrev main_call1_call1_v14 : Ref sig .tc := ⟨.hbm, 265, rfl⟩
abbrev main_call1_call1_v15 : Ref sig .tc := ⟨.hbm, 266, rfl⟩
abbrev main_call1_call1_v16 : Ref sig .tc := ⟨.hbm, 267, rfl⟩
abbrev main_call1_call1_v17 : Ref sig .tc := ⟨.hbm, 268, rfl⟩
abbrev main_call1_call1_v18 : Ref sig .tc := ⟨.hbm, 269, rfl⟩
abbrev main_call1_call1_v19 : Ref sig .tc := ⟨.hbm, 270, rfl⟩
abbrev main_call1_call1_c_1 : Ref sig .tc := ⟨.hbm, 271, rfl⟩
abbrev main_call1_call1_v20 : Ref sig .tc := ⟨.hbm, 272, rfl⟩
abbrev main_call1_call1_v21 : Ref sig .tc := ⟨.hbm, 273, rfl⟩
abbrev main_call1_call1_c_2 : Ref sig .tc := ⟨.hbm, 274, rfl⟩
abbrev main_call1_call1_v22 : Ref sig .tc := ⟨.hbm, 275, rfl⟩
abbrev main_call1_call1_v23 : Ref sig .tc := ⟨.hbm, 276, rfl⟩
abbrev main_call1_call1_v24 : Ref sig .tc := ⟨.hbm, 277, rfl⟩
abbrev main_call1_call1_c_3 : Ref sig .tc := ⟨.hbm, 278, rfl⟩
abbrev main_call1_call1_v25 : Ref sig .tc := ⟨.hbm, 279, rfl⟩
abbrev main_call1_call1_v26 : Ref sig .tc := ⟨.hbm, 280, rfl⟩
abbrev main_call1_call1_c_4 : Ref sig .tc := ⟨.hbm, 281, rfl⟩
abbrev main_call1_call1_v27 : Ref sig .tc := ⟨.hbm, 282, rfl⟩
abbrev main_call1_call1_v28 : Ref sig .tc := ⟨.hbm, 283, rfl⟩
abbrev main_call1_call1_v29 : Ref sig .tc := ⟨.hbm, 284, rfl⟩
abbrev main_call1_call1_v30 : Ref sig .tc := ⟨.hbm, 285, rfl⟩
abbrev main_call1_call1_v31 : Ref sig .tc := ⟨.hbm, 286, rfl⟩
abbrev main_call1_call1_v32 : Ref sig .tc := ⟨.hbm, 287, rfl⟩
abbrev main_call1_call1_v33 : Ref sig .tc := ⟨.hbm, 288, rfl⟩
abbrev main_call1_call1_v34 : Ref sig .tc := ⟨.hbm, 289, rfl⟩
abbrev main_call1_call1_v35 : Ref sig .tc := ⟨.hbm, 290, rfl⟩
abbrev main_call1_v1 : Ref sig .tc := ⟨.hbm, 291, rfl⟩
abbrev main_call1_v2 : Ref sig .tc := ⟨.hbm, 292, rfl⟩
abbrev main_call1_v3 : Ref sig .tc := ⟨.hbm, 293, rfl⟩
abbrev main_call1_call2_v0 : Ref sig .tc := ⟨.hbm, 294, rfl⟩
abbrev main_call1_call2_cst : Ref sig .tc := ⟨.hbm, 295, rfl⟩
abbrev main_call1_call2_c : Ref sig .tc := ⟨.hbm, 296, rfl⟩
abbrev main_call1_call2_v1_0 : Ref sig .tc := ⟨.hbm, 297, rfl⟩
abbrev main_call1_v4 : Ref sig .tc := ⟨.hbm, 298, rfl⟩
abbrev main_call1_v5 : Ref sig .tc := ⟨.hbm, 299, rfl⟩
abbrev main_call1_call3_c : Ref sig .tc := ⟨.hbm, 300, rfl⟩
abbrev main_call1_call3_v0 : Ref sig .tc := ⟨.hbm, 301, rfl⟩
abbrev main_call1_call3_v1 : Ref sig .tc := ⟨.hbm, 302, rfl⟩
abbrev main_call1_call3_c_0 : Ref sig .tc := ⟨.hbm, 303, rfl⟩
abbrev main_call1_call3_v2 : Ref sig .tc := ⟨.hbm, 304, rfl⟩
abbrev main_call1_call3_v3 : Ref sig .tc := ⟨.hbm, 305, rfl⟩
abbrev main_call1_call3_v4 : Ref sig .tc := ⟨.hbm, 306, rfl⟩
abbrev main_call1_call3_v5 : Ref sig .tc := ⟨.hbm, 307, rfl⟩
abbrev main_call1_call3_c_1 : Ref sig .tc := ⟨.hbm, 308, rfl⟩
abbrev main_call1_call3_c_2 : Ref sig .tc := ⟨.hbm, 309, rfl⟩
abbrev main_call1_call3_v6 : Ref sig .tc := ⟨.hbm, 310, rfl⟩
abbrev main_call1_call3_v7 : Ref sig .tc := ⟨.hbm, 311, rfl⟩
abbrev main_call1_call3_v8 : Ref sig .tc := ⟨.hbm, 312, rfl⟩
abbrev main_call1_call3_v9 : Ref sig .tc := ⟨.hbm, 313, rfl⟩
abbrev main_call1_call3_v10 : Ref sig .tc := ⟨.hbm, 314, rfl⟩
abbrev main_call1_call3_v11 : Ref sig .tc := ⟨.hbm, 315, rfl⟩
abbrev main_call1_call3_c_3 : Ref sig .tc := ⟨.hbm, 316, rfl⟩
abbrev main_call1_call3_v12 : Ref sig .tc := ⟨.hbm, 317, rfl⟩
abbrev main_call1_call3_v13 : Ref sig .tc := ⟨.hbm, 318, rfl⟩
abbrev main_call1_call3_cst : Ref sig .tc := ⟨.hbm, 319, rfl⟩
abbrev main_call1_call3_v14 : Ref sig .tc := ⟨.hbm, 320, rfl⟩
abbrev main_call1_v6 : Ref sig .tc := ⟨.hbm, 321, rfl⟩
abbrev main_call1_v7 : Ref sig .tc := ⟨.hbm, 322, rfl⟩
abbrev main_call1_call4_v0 : Ref sig .tc := ⟨.hbm, 323, rfl⟩
abbrev main_call1_call4_v1 : Ref sig .tc := ⟨.hbm, 324, rfl⟩
abbrev main_call1_call4_c : Ref sig .tc := ⟨.hbm, 325, rfl⟩
abbrev main_call1_call4_call0_v0 : Ref sig .tc := ⟨.hbm, 326, rfl⟩
abbrev main_call1_call4_call0_v1 : Ref sig .tc := ⟨.hbm, 327, rfl⟩
abbrev main_call1_call4_call0_v2 : Ref sig .tc := ⟨.hbm, 328, rfl⟩
abbrev main_call1_call4_call0_v3 : Ref sig .tc := ⟨.hbm, 329, rfl⟩
abbrev main_call1_call4_call0_v4 : Ref sig .tc := ⟨.hbm, 330, rfl⟩
abbrev main_call1_call4_call0_v5 : Ref sig .tc := ⟨.hbm, 331, rfl⟩
abbrev main_call1_call4_call0_v6 : Ref sig .tc := ⟨.hbm, 332, rfl⟩
abbrev main_call1_call4_call0_v7 : Ref sig .tc := ⟨.hbm, 333, rfl⟩
abbrev main_call1_call4_call0_v8 : Ref sig .tc := ⟨.hbm, 334, rfl⟩
abbrev main_call1_call4_call0_c : Ref sig .tc := ⟨.hbm, 335, rfl⟩
abbrev main_call1_call4_call0_v9 : Ref sig .tc := ⟨.hbm, 336, rfl⟩
abbrev main_call1_call4_call0_v10 : Ref sig .tc := ⟨.hbm, 337, rfl⟩
abbrev main_call1_call4_call0_v11 : Ref sig .tc := ⟨.hbm, 338, rfl⟩
abbrev main_call1_call4_call0_c_0 : Ref sig .tc := ⟨.hbm, 339, rfl⟩
abbrev main_call1_call4_call0_v12 : Ref sig .tc := ⟨.hbm, 340, rfl⟩
abbrev main_call1_call4_call0_v13 : Ref sig .tc := ⟨.hbm, 341, rfl⟩
abbrev main_call1_call4_v2 : Ref sig .tc := ⟨.hbm, 342, rfl⟩
abbrev main_call1_call4_c_0 : Ref sig .tc := ⟨.hbm, 343, rfl⟩
abbrev main_call1_call4_v3 : Ref sig .tc := ⟨.hbm, 344, rfl⟩
abbrev main_call1_call4_v4 : Ref sig .tc := ⟨.hbm, 345, rfl⟩
abbrev main_call1_call4_c_1 : Ref sig .tc := ⟨.hbm, 346, rfl⟩
abbrev main_call1_call4_call1_v0 : Ref sig .tc := ⟨.hbm, 347, rfl⟩
abbrev main_call1_call4_call1_v1 : Ref sig .tc := ⟨.hbm, 348, rfl⟩
abbrev main_call1_call4_call1_v2 : Ref sig .tc := ⟨.hbm, 349, rfl⟩
abbrev main_call1_call4_call1_v3 : Ref sig .tc := ⟨.hbm, 350, rfl⟩
abbrev main_call1_call4_call1_v4 : Ref sig .tc := ⟨.hbm, 351, rfl⟩
abbrev main_call1_call4_call1_v5 : Ref sig .tc := ⟨.hbm, 352, rfl⟩
abbrev main_call1_call4_call1_v6 : Ref sig .tc := ⟨.hbm, 353, rfl⟩
abbrev main_call1_call4_call1_v7 : Ref sig .tc := ⟨.hbm, 354, rfl⟩
abbrev main_call1_call4_call1_v8 : Ref sig .tc := ⟨.hbm, 355, rfl⟩
abbrev main_call1_call4_call1_c : Ref sig .tc := ⟨.hbm, 356, rfl⟩
abbrev main_call1_call4_call1_v9 : Ref sig .tc := ⟨.hbm, 357, rfl⟩
abbrev main_call1_call4_call1_v10 : Ref sig .tc := ⟨.hbm, 358, rfl⟩
abbrev main_call1_call4_call1_v11 : Ref sig .tc := ⟨.hbm, 359, rfl⟩
abbrev main_call1_call4_call1_c_0 : Ref sig .tc := ⟨.hbm, 360, rfl⟩
abbrev main_call1_call4_call1_v12 : Ref sig .tc := ⟨.hbm, 361, rfl⟩
abbrev main_call1_call4_call1_v13 : Ref sig .tc := ⟨.hbm, 362, rfl⟩
abbrev main_call1_call4_v5 : Ref sig .tc := ⟨.hbm, 363, rfl⟩
abbrev main_call1_call4_c_2 : Ref sig .tc := ⟨.hbm, 364, rfl⟩
abbrev main_call1_call4_v6 : Ref sig .tc := ⟨.hbm, 365, rfl⟩
abbrev main_call1_call4_v7 : Ref sig .tc := ⟨.hbm, 366, rfl⟩
abbrev main_call1_call4_c_3 : Ref sig .tc := ⟨.hbm, 367, rfl⟩
abbrev main_call1_call4_v8 : Ref sig .tc := ⟨.hbm, 368, rfl⟩
abbrev main_call1_call4_v9 : Ref sig .tc := ⟨.hbm, 369, rfl⟩
abbrev main_call1_call4_v10 : Ref sig .tc := ⟨.hbm, 370, rfl⟩
abbrev main_call1_call4_c_4 : Ref sig .tc := ⟨.hbm, 371, rfl⟩
abbrev main_call1_call4_v11 : Ref sig .tc := ⟨.hbm, 372, rfl⟩
abbrev main_call1_call4_v12 : Ref sig .tc := ⟨.hbm, 373, rfl⟩
abbrev main_call1_call4_c_5 : Ref sig .tc := ⟨.hbm, 374, rfl⟩
abbrev main_call1_call4_v13 : Ref sig .tc := ⟨.hbm, 375, rfl⟩
abbrev main_call1_call4_v14 : Ref sig .tc := ⟨.hbm, 376, rfl⟩
abbrev main_call1_call4_v15 : Ref sig .tc := ⟨.hbm, 377, rfl⟩
abbrev main_call1_call4_c_6 : Ref sig .tc := ⟨.hbm, 378, rfl⟩
abbrev main_call1_call4_v16 : Ref sig .tc := ⟨.hbm, 379, rfl⟩
abbrev main_call1_call4_v17 : Ref sig .tc := ⟨.hbm, 380, rfl⟩
abbrev main_call1_call4_v18 : Ref sig .tc := ⟨.hbm, 381, rfl⟩
abbrev main_call1_call4_v19 : Ref sig .tc := ⟨.hbm, 382, rfl⟩
abbrev main_call1_call4_v20 : Ref sig .tc := ⟨.hbm, 383, rfl⟩
abbrev main_call1_call4_v21 : Ref sig .tc := ⟨.hbm, 384, rfl⟩
abbrev main_call1_call4_v22 : Ref sig .tc := ⟨.hbm, 385, rfl⟩
abbrev main_call1_call4_v23 : Ref sig .tc := ⟨.hbm, 386, rfl⟩
abbrev main_call1_call4_v24 : Ref sig .tc := ⟨.hbm, 387, rfl⟩
abbrev main_call1_call4_c_7 : Ref sig .tc := ⟨.hbm, 388, rfl⟩
abbrev main_call1_call4_v25 : Ref sig .tc := ⟨.hbm, 389, rfl⟩
abbrev main_call1_call4_v26 : Ref sig .tc := ⟨.hbm, 390, rfl⟩
abbrev main_call1_call4_c_8 : Ref sig .tc := ⟨.hbm, 391, rfl⟩
abbrev main_call1_call4_v27 : Ref sig .tc := ⟨.hbm, 392, rfl⟩
abbrev main_call1_call4_v28 : Ref sig .tc := ⟨.hbm, 393, rfl⟩
abbrev main_call1_call4_v29 : Ref sig .tc := ⟨.hbm, 394, rfl⟩
abbrev main_call1_call4_c_9 : Ref sig .tc := ⟨.hbm, 395, rfl⟩
abbrev main_call1_call4_v30 : Ref sig .tc := ⟨.hbm, 396, rfl⟩
abbrev main_call1_call4_v31 : Ref sig .tc := ⟨.hbm, 397, rfl⟩
abbrev main_call1_call4_c_10 : Ref sig .tc := ⟨.hbm, 398, rfl⟩
abbrev main_call1_call4_v32 : Ref sig .tc := ⟨.hbm, 399, rfl⟩
abbrev main_call1_call4_v33 : Ref sig .tc := ⟨.hbm, 400, rfl⟩
abbrev main_call1_call4_v34 : Ref sig .tc := ⟨.hbm, 401, rfl⟩
abbrev main_call1_call4_v35 : Ref sig .tc := ⟨.hbm, 402, rfl⟩
abbrev main_call1_call4_v36 : Ref sig .tc := ⟨.hbm, 403, rfl⟩
abbrev main_call1_call4_v37 : Ref sig .tc := ⟨.hbm, 404, rfl⟩
abbrev main_call1_call4_v38 : Ref sig .tc := ⟨.hbm, 405, rfl⟩
abbrev main_call1_call4_v39 : Ref sig .tc := ⟨.hbm, 406, rfl⟩
abbrev main_call1_call4_v40 : Ref sig .tc := ⟨.hbm, 407, rfl⟩
abbrev main_v1 : Ref sig .tc := ⟨.hbm, 408, rfl⟩
abbrev main_v2 : Ref sig .tc := ⟨.hbm, 409, rfl⟩
abbrev main_call2_call0_v0 : Ref sig .tc := ⟨.hbm, 410, rfl⟩
abbrev main_call2_call0_c : Ref sig .tc := ⟨.hbm, 411, rfl⟩
abbrev main_call2_call0_v1 : Ref sig .tc := ⟨.hbm, 412, rfl⟩
abbrev main_call2_call0_v2 : Ref sig .tc := ⟨.hbm, 413, rfl⟩
abbrev main_call2_call0_v3 : Ref sig .tc := ⟨.hbm, 414, rfl⟩
abbrev main_call2_call0_c_0 : Ref sig .tc := ⟨.hbm, 415, rfl⟩
abbrev main_call2_call0_v4 : Ref sig .tc := ⟨.hbm, 416, rfl⟩
abbrev main_call2_call0_v5 : Ref sig .tc := ⟨.hbm, 417, rfl⟩
abbrev main_call2_call0_v6 : Ref sig .tc := ⟨.hbm, 418, rfl⟩
abbrev main_call2_call0_v7 : Ref sig .tc := ⟨.hbm, 419, rfl⟩
abbrev main_call2_call0_v8 : Ref sig .tc := ⟨.hbm, 420, rfl⟩
abbrev main_call2_call0_v9 : Ref sig .tc := ⟨.hbm, 421, rfl⟩
abbrev main_call2_call0_v10 : Ref sig .tc := ⟨.hbm, 422, rfl⟩
abbrev main_call2_call0_v11 : Ref sig .tc := ⟨.hbm, 423, rfl⟩
abbrev main_call2_call0_v12 : Ref sig .tc := ⟨.hbm, 424, rfl⟩
abbrev main_call2_call0_v13 : Ref sig .tc := ⟨.hbm, 425, rfl⟩
abbrev main_call2_call0_v14 : Ref sig .tc := ⟨.hbm, 426, rfl⟩
abbrev main_call2_call0_v15 : Ref sig .tc := ⟨.hbm, 427, rfl⟩
abbrev main_call2_call0_v16 : Ref sig .tc := ⟨.hbm, 428, rfl⟩
abbrev main_call2_call0_v17 : Ref sig .tc := ⟨.hbm, 429, rfl⟩
abbrev main_call2_call0_v18 : Ref sig .tc := ⟨.hbm, 430, rfl⟩
abbrev main_call2_call0_v19 : Ref sig .tc := ⟨.hbm, 431, rfl⟩
abbrev main_call2_call0_c_1 : Ref sig .tc := ⟨.hbm, 432, rfl⟩
abbrev main_call2_call0_v20 : Ref sig .tc := ⟨.hbm, 433, rfl⟩
abbrev main_call2_call0_v21 : Ref sig .tc := ⟨.hbm, 434, rfl⟩
abbrev main_call2_call0_c_2 : Ref sig .tc := ⟨.hbm, 435, rfl⟩
abbrev main_call2_call0_v22 : Ref sig .tc := ⟨.hbm, 436, rfl⟩
abbrev main_call2_call0_v23 : Ref sig .tc := ⟨.hbm, 437, rfl⟩
abbrev main_call2_call0_v24 : Ref sig .tc := ⟨.hbm, 438, rfl⟩
abbrev main_call2_call0_c_3 : Ref sig .tc := ⟨.hbm, 439, rfl⟩
abbrev main_call2_call0_v25 : Ref sig .tc := ⟨.hbm, 440, rfl⟩
abbrev main_call2_call0_v26 : Ref sig .tc := ⟨.hbm, 441, rfl⟩
abbrev main_call2_call0_c_4 : Ref sig .tc := ⟨.hbm, 442, rfl⟩
abbrev main_call2_call0_v27 : Ref sig .tc := ⟨.hbm, 443, rfl⟩
abbrev main_call2_call0_v28 : Ref sig .tc := ⟨.hbm, 444, rfl⟩
abbrev main_call2_call0_v29 : Ref sig .tc := ⟨.hbm, 445, rfl⟩
abbrev main_call2_call0_v30 : Ref sig .tc := ⟨.hbm, 446, rfl⟩
abbrev main_call2_call0_v31 : Ref sig .tc := ⟨.hbm, 447, rfl⟩
abbrev main_call2_call0_v32 : Ref sig .tc := ⟨.hbm, 448, rfl⟩
abbrev main_call2_call0_v33 : Ref sig .tc := ⟨.hbm, 449, rfl⟩
abbrev main_call2_call0_v34 : Ref sig .tc := ⟨.hbm, 450, rfl⟩
abbrev main_call2_call0_v35 : Ref sig .tc := ⟨.hbm, 451, rfl⟩
abbrev main_call2_v0 : Ref sig .tc := ⟨.hbm, 452, rfl⟩
abbrev main_call2_call1_v0 : Ref sig .tc := ⟨.hbm, 453, rfl⟩
abbrev main_call2_call1_c : Ref sig .tc := ⟨.hbm, 454, rfl⟩
abbrev main_call2_call1_v1 : Ref sig .tc := ⟨.hbm, 455, rfl⟩
abbrev main_call2_call1_v2 : Ref sig .tc := ⟨.hbm, 456, rfl⟩
abbrev main_call2_call1_v3 : Ref sig .tc := ⟨.hbm, 457, rfl⟩
abbrev main_call2_call1_c_0 : Ref sig .tc := ⟨.hbm, 458, rfl⟩
abbrev main_call2_call1_v4 : Ref sig .tc := ⟨.hbm, 459, rfl⟩
abbrev main_call2_call1_v5 : Ref sig .tc := ⟨.hbm, 460, rfl⟩
abbrev main_call2_call1_v6 : Ref sig .tc := ⟨.hbm, 461, rfl⟩
abbrev main_call2_call1_v7 : Ref sig .tc := ⟨.hbm, 462, rfl⟩
abbrev main_call2_call1_v8 : Ref sig .tc := ⟨.hbm, 463, rfl⟩
abbrev main_call2_call1_v9 : Ref sig .tc := ⟨.hbm, 464, rfl⟩
abbrev main_call2_call1_v10 : Ref sig .tc := ⟨.hbm, 465, rfl⟩
abbrev main_call2_call1_v11 : Ref sig .tc := ⟨.hbm, 466, rfl⟩
abbrev main_call2_call1_v12 : Ref sig .tc := ⟨.hbm, 467, rfl⟩
abbrev main_call2_call1_v13 : Ref sig .tc := ⟨.hbm, 468, rfl⟩
abbrev main_call2_call1_v14 : Ref sig .tc := ⟨.hbm, 469, rfl⟩
abbrev main_call2_call1_v15 : Ref sig .tc := ⟨.hbm, 470, rfl⟩
abbrev main_call2_call1_v16 : Ref sig .tc := ⟨.hbm, 471, rfl⟩
abbrev main_call2_call1_v17 : Ref sig .tc := ⟨.hbm, 472, rfl⟩
abbrev main_call2_call1_v18 : Ref sig .tc := ⟨.hbm, 473, rfl⟩
abbrev main_call2_call1_v19 : Ref sig .tc := ⟨.hbm, 474, rfl⟩
abbrev main_call2_call1_c_1 : Ref sig .tc := ⟨.hbm, 475, rfl⟩
abbrev main_call2_call1_v20 : Ref sig .tc := ⟨.hbm, 476, rfl⟩
abbrev main_call2_call1_v21 : Ref sig .tc := ⟨.hbm, 477, rfl⟩
abbrev main_call2_call1_c_2 : Ref sig .tc := ⟨.hbm, 478, rfl⟩
abbrev main_call2_call1_v22 : Ref sig .tc := ⟨.hbm, 479, rfl⟩
abbrev main_call2_call1_v23 : Ref sig .tc := ⟨.hbm, 480, rfl⟩
abbrev main_call2_call1_v24 : Ref sig .tc := ⟨.hbm, 481, rfl⟩
abbrev main_call2_call1_c_3 : Ref sig .tc := ⟨.hbm, 482, rfl⟩
abbrev main_call2_call1_v25 : Ref sig .tc := ⟨.hbm, 483, rfl⟩
abbrev main_call2_call1_v26 : Ref sig .tc := ⟨.hbm, 484, rfl⟩
abbrev main_call2_call1_c_4 : Ref sig .tc := ⟨.hbm, 485, rfl⟩
abbrev main_call2_call1_v27 : Ref sig .tc := ⟨.hbm, 486, rfl⟩
abbrev main_call2_call1_v28 : Ref sig .tc := ⟨.hbm, 487, rfl⟩
abbrev main_call2_call1_v29 : Ref sig .tc := ⟨.hbm, 488, rfl⟩
abbrev main_call2_call1_v30 : Ref sig .tc := ⟨.hbm, 489, rfl⟩
abbrev main_call2_call1_v31 : Ref sig .tc := ⟨.hbm, 490, rfl⟩
abbrev main_call2_call1_v32 : Ref sig .tc := ⟨.hbm, 491, rfl⟩
abbrev main_call2_call1_v33 : Ref sig .tc := ⟨.hbm, 492, rfl⟩
abbrev main_call2_call1_v34 : Ref sig .tc := ⟨.hbm, 493, rfl⟩
abbrev main_call2_call1_v35 : Ref sig .tc := ⟨.hbm, 494, rfl⟩
abbrev main_call2_v1 : Ref sig .tc := ⟨.hbm, 495, rfl⟩
abbrev main_call2_v2 : Ref sig .tc := ⟨.hbm, 496, rfl⟩
abbrev main_call2_v3 : Ref sig .tc := ⟨.hbm, 497, rfl⟩
abbrev main_call2_call2_v0 : Ref sig .tc := ⟨.hbm, 498, rfl⟩
abbrev main_call2_call2_cst : Ref sig .tc := ⟨.hbm, 499, rfl⟩
abbrev main_call2_call2_c : Ref sig .tc := ⟨.hbm, 500, rfl⟩
abbrev main_call2_call2_v1_0 : Ref sig .tc := ⟨.hbm, 501, rfl⟩
abbrev main_call2_v4 : Ref sig .tc := ⟨.hbm, 502, rfl⟩
abbrev main_call2_v5 : Ref sig .tc := ⟨.hbm, 503, rfl⟩
abbrev main_call2_call3_c : Ref sig .tc := ⟨.hbm, 504, rfl⟩
abbrev main_call2_call3_v0 : Ref sig .tc := ⟨.hbm, 505, rfl⟩
abbrev main_call2_call3_v1 : Ref sig .tc := ⟨.hbm, 506, rfl⟩
abbrev main_call2_call3_c_0 : Ref sig .tc := ⟨.hbm, 507, rfl⟩
abbrev main_call2_call3_v2 : Ref sig .tc := ⟨.hbm, 508, rfl⟩
abbrev main_call2_call3_v3 : Ref sig .tc := ⟨.hbm, 509, rfl⟩
abbrev main_call2_call3_v4 : Ref sig .tc := ⟨.hbm, 510, rfl⟩
abbrev main_call2_call3_v5 : Ref sig .tc := ⟨.hbm, 511, rfl⟩
abbrev main_call2_call3_c_1 : Ref sig .tc := ⟨.hbm, 512, rfl⟩
abbrev main_call2_call3_c_2 : Ref sig .tc := ⟨.hbm, 513, rfl⟩
abbrev main_call2_call3_v6 : Ref sig .tc := ⟨.hbm, 514, rfl⟩
abbrev main_call2_call3_v7 : Ref sig .tc := ⟨.hbm, 515, rfl⟩
abbrev main_call2_call3_v8 : Ref sig .tc := ⟨.hbm, 516, rfl⟩
abbrev main_call2_call3_v9 : Ref sig .tc := ⟨.hbm, 517, rfl⟩
abbrev main_call2_call3_v10 : Ref sig .tc := ⟨.hbm, 518, rfl⟩
abbrev main_call2_call3_v11 : Ref sig .tc := ⟨.hbm, 519, rfl⟩
abbrev main_call2_call3_c_3 : Ref sig .tc := ⟨.hbm, 520, rfl⟩
abbrev main_call2_call3_v12 : Ref sig .tc := ⟨.hbm, 521, rfl⟩
abbrev main_call2_call3_v13 : Ref sig .tc := ⟨.hbm, 522, rfl⟩
abbrev main_call2_call3_cst : Ref sig .tc := ⟨.hbm, 523, rfl⟩
abbrev main_call2_call3_v14 : Ref sig .tc := ⟨.hbm, 524, rfl⟩
abbrev main_call2_v6 : Ref sig .tc := ⟨.hbm, 525, rfl⟩
abbrev main_call2_v7 : Ref sig .tc := ⟨.hbm, 526, rfl⟩
abbrev main_call2_call4_v0 : Ref sig .tc := ⟨.hbm, 527, rfl⟩
abbrev main_call2_call4_v1 : Ref sig .tc := ⟨.hbm, 528, rfl⟩
abbrev main_call2_call4_c : Ref sig .tc := ⟨.hbm, 529, rfl⟩
abbrev main_call2_call4_call0_v0 : Ref sig .tc := ⟨.hbm, 530, rfl⟩
abbrev main_call2_call4_call0_v1 : Ref sig .tc := ⟨.hbm, 531, rfl⟩
abbrev main_call2_call4_call0_v2 : Ref sig .tc := ⟨.hbm, 532, rfl⟩
abbrev main_call2_call4_call0_v3 : Ref sig .tc := ⟨.hbm, 533, rfl⟩
abbrev main_call2_call4_call0_v4 : Ref sig .tc := ⟨.hbm, 534, rfl⟩
abbrev main_call2_call4_call0_v5 : Ref sig .tc := ⟨.hbm, 535, rfl⟩
abbrev main_call2_call4_call0_v6 : Ref sig .tc := ⟨.hbm, 536, rfl⟩
abbrev main_call2_call4_call0_v7 : Ref sig .tc := ⟨.hbm, 537, rfl⟩
abbrev main_call2_call4_call0_v8 : Ref sig .tc := ⟨.hbm, 538, rfl⟩
abbrev main_call2_call4_call0_c : Ref sig .tc := ⟨.hbm, 539, rfl⟩
abbrev main_call2_call4_call0_v9 : Ref sig .tc := ⟨.hbm, 540, rfl⟩
abbrev main_call2_call4_call0_v10 : Ref sig .tc := ⟨.hbm, 541, rfl⟩
abbrev main_call2_call4_call0_v11 : Ref sig .tc := ⟨.hbm, 542, rfl⟩
abbrev main_call2_call4_call0_c_0 : Ref sig .tc := ⟨.hbm, 543, rfl⟩
abbrev main_call2_call4_call0_v12 : Ref sig .tc := ⟨.hbm, 544, rfl⟩
abbrev main_call2_call4_call0_v13 : Ref sig .tc := ⟨.hbm, 545, rfl⟩
abbrev main_call2_call4_v2 : Ref sig .tc := ⟨.hbm, 546, rfl⟩
abbrev main_call2_call4_c_0 : Ref sig .tc := ⟨.hbm, 547, rfl⟩
abbrev main_call2_call4_v3 : Ref sig .tc := ⟨.hbm, 548, rfl⟩
abbrev main_call2_call4_v4 : Ref sig .tc := ⟨.hbm, 549, rfl⟩
abbrev main_call2_call4_c_1 : Ref sig .tc := ⟨.hbm, 550, rfl⟩
abbrev main_call2_call4_call1_v0 : Ref sig .tc := ⟨.hbm, 551, rfl⟩
abbrev main_call2_call4_call1_v1 : Ref sig .tc := ⟨.hbm, 552, rfl⟩
abbrev main_call2_call4_call1_v2 : Ref sig .tc := ⟨.hbm, 553, rfl⟩
abbrev main_call2_call4_call1_v3 : Ref sig .tc := ⟨.hbm, 554, rfl⟩
abbrev main_call2_call4_call1_v4 : Ref sig .tc := ⟨.hbm, 555, rfl⟩
abbrev main_call2_call4_call1_v5 : Ref sig .tc := ⟨.hbm, 556, rfl⟩
abbrev main_call2_call4_call1_v6 : Ref sig .tc := ⟨.hbm, 557, rfl⟩
abbrev main_call2_call4_call1_v7 : Ref sig .tc := ⟨.hbm, 558, rfl⟩
abbrev main_call2_call4_call1_v8 : Ref sig .tc := ⟨.hbm, 559, rfl⟩
abbrev main_call2_call4_call1_c : Ref sig .tc := ⟨.hbm, 560, rfl⟩
abbrev main_call2_call4_call1_v9 : Ref sig .tc := ⟨.hbm, 561, rfl⟩
abbrev main_call2_call4_call1_v10 : Ref sig .tc := ⟨.hbm, 562, rfl⟩
abbrev main_call2_call4_call1_v11 : Ref sig .tc := ⟨.hbm, 563, rfl⟩
abbrev main_call2_call4_call1_c_0 : Ref sig .tc := ⟨.hbm, 564, rfl⟩
abbrev main_call2_call4_call1_v12 : Ref sig .tc := ⟨.hbm, 565, rfl⟩
abbrev main_call2_call4_call1_v13 : Ref sig .tc := ⟨.hbm, 566, rfl⟩
abbrev main_call2_call4_v5 : Ref sig .tc := ⟨.hbm, 567, rfl⟩
abbrev main_call2_call4_c_2 : Ref sig .tc := ⟨.hbm, 568, rfl⟩
abbrev main_call2_call4_v6 : Ref sig .tc := ⟨.hbm, 569, rfl⟩
abbrev main_call2_call4_v7 : Ref sig .tc := ⟨.hbm, 570, rfl⟩
abbrev main_call2_call4_c_3 : Ref sig .tc := ⟨.hbm, 571, rfl⟩
abbrev main_call2_call4_v8 : Ref sig .tc := ⟨.hbm, 572, rfl⟩
abbrev main_call2_call4_v9 : Ref sig .tc := ⟨.hbm, 573, rfl⟩
abbrev main_call2_call4_v10 : Ref sig .tc := ⟨.hbm, 574, rfl⟩
abbrev main_call2_call4_c_4 : Ref sig .tc := ⟨.hbm, 575, rfl⟩
abbrev main_call2_call4_v11 : Ref sig .tc := ⟨.hbm, 576, rfl⟩
abbrev main_call2_call4_v12 : Ref sig .tc := ⟨.hbm, 577, rfl⟩
abbrev main_call2_call4_c_5 : Ref sig .tc := ⟨.hbm, 578, rfl⟩
abbrev main_call2_call4_v13 : Ref sig .tc := ⟨.hbm, 579, rfl⟩
abbrev main_call2_call4_v14 : Ref sig .tc := ⟨.hbm, 580, rfl⟩
abbrev main_call2_call4_v15 : Ref sig .tc := ⟨.hbm, 581, rfl⟩
abbrev main_call2_call4_c_6 : Ref sig .tc := ⟨.hbm, 582, rfl⟩
abbrev main_call2_call4_v16 : Ref sig .tc := ⟨.hbm, 583, rfl⟩
abbrev main_call2_call4_v17 : Ref sig .tc := ⟨.hbm, 584, rfl⟩
abbrev main_call2_call4_v18 : Ref sig .tc := ⟨.hbm, 585, rfl⟩
abbrev main_call2_call4_v19 : Ref sig .tc := ⟨.hbm, 586, rfl⟩
abbrev main_call2_call4_v20 : Ref sig .tc := ⟨.hbm, 587, rfl⟩
abbrev main_call2_call4_v21 : Ref sig .tc := ⟨.hbm, 588, rfl⟩
abbrev main_call2_call4_v22 : Ref sig .tc := ⟨.hbm, 589, rfl⟩
abbrev main_call2_call4_v23 : Ref sig .tc := ⟨.hbm, 590, rfl⟩
abbrev main_call2_call4_v24 : Ref sig .tc := ⟨.hbm, 591, rfl⟩
abbrev main_call2_call4_c_7 : Ref sig .tc := ⟨.hbm, 592, rfl⟩
abbrev main_call2_call4_v25 : Ref sig .tc := ⟨.hbm, 593, rfl⟩
abbrev main_call2_call4_v26 : Ref sig .tc := ⟨.hbm, 594, rfl⟩
abbrev main_call2_call4_c_8 : Ref sig .tc := ⟨.hbm, 595, rfl⟩
abbrev main_call2_call4_v27 : Ref sig .tc := ⟨.hbm, 596, rfl⟩
abbrev main_call2_call4_v28 : Ref sig .tc := ⟨.hbm, 597, rfl⟩
abbrev main_call2_call4_v29 : Ref sig .tc := ⟨.hbm, 598, rfl⟩
abbrev main_call2_call4_c_9 : Ref sig .tc := ⟨.hbm, 599, rfl⟩
abbrev main_call2_call4_v30 : Ref sig .tc := ⟨.hbm, 600, rfl⟩
abbrev main_call2_call4_v31 : Ref sig .tc := ⟨.hbm, 601, rfl⟩
abbrev main_call2_call4_c_10 : Ref sig .tc := ⟨.hbm, 602, rfl⟩
abbrev main_call2_call4_v32 : Ref sig .tc := ⟨.hbm, 603, rfl⟩
abbrev main_call2_call4_v33 : Ref sig .tc := ⟨.hbm, 604, rfl⟩
abbrev main_call2_call4_v34 : Ref sig .tc := ⟨.hbm, 605, rfl⟩
abbrev main_call2_call4_v35 : Ref sig .tc := ⟨.hbm, 606, rfl⟩
abbrev main_call2_call4_v36 : Ref sig .tc := ⟨.hbm, 607, rfl⟩
abbrev main_call2_call4_v37 : Ref sig .tc := ⟨.hbm, 608, rfl⟩
abbrev main_call2_call4_v38 : Ref sig .tc := ⟨.hbm, 609, rfl⟩
abbrev main_call2_call4_v39 : Ref sig .tc := ⟨.hbm, 610, rfl⟩
abbrev main_call2_call4_v40 : Ref sig .tc := ⟨.hbm, 611, rfl⟩
abbrev main_v3 : Ref sig .tc := ⟨.hbm, 612, rfl⟩
abbrev main_call3_call0_v0 : Ref sig .tc := ⟨.hbm, 613, rfl⟩
abbrev main_call3_call0_c : Ref sig .tc := ⟨.hbm, 614, rfl⟩
abbrev main_call3_call0_v1 : Ref sig .tc := ⟨.hbm, 615, rfl⟩
abbrev main_call3_call0_v2 : Ref sig .tc := ⟨.hbm, 616, rfl⟩
abbrev main_call3_call0_v3 : Ref sig .tc := ⟨.hbm, 617, rfl⟩
abbrev main_call3_call0_c_0 : Ref sig .tc := ⟨.hbm, 618, rfl⟩
abbrev main_call3_call0_v4 : Ref sig .tc := ⟨.hbm, 619, rfl⟩
abbrev main_call3_call0_v5 : Ref sig .tc := ⟨.hbm, 620, rfl⟩
abbrev main_call3_call0_v6 : Ref sig .tc := ⟨.hbm, 621, rfl⟩
abbrev main_call3_call0_v7 : Ref sig .tc := ⟨.hbm, 622, rfl⟩
abbrev main_call3_call0_v8 : Ref sig .tc := ⟨.hbm, 623, rfl⟩
abbrev main_call3_call0_v9 : Ref sig .tc := ⟨.hbm, 624, rfl⟩
abbrev main_call3_call0_v10 : Ref sig .tc := ⟨.hbm, 625, rfl⟩
abbrev main_call3_call0_v11 : Ref sig .tc := ⟨.hbm, 626, rfl⟩
abbrev main_call3_call0_v12 : Ref sig .tc := ⟨.hbm, 627, rfl⟩
abbrev main_call3_call0_v13 : Ref sig .tc := ⟨.hbm, 628, rfl⟩
abbrev main_call3_call0_v14 : Ref sig .tc := ⟨.hbm, 629, rfl⟩
abbrev main_call3_call0_v15 : Ref sig .tc := ⟨.hbm, 630, rfl⟩
abbrev main_call3_call0_v16 : Ref sig .tc := ⟨.hbm, 631, rfl⟩
abbrev main_call3_call0_v17 : Ref sig .tc := ⟨.hbm, 632, rfl⟩
abbrev main_call3_call0_v18 : Ref sig .tc := ⟨.hbm, 633, rfl⟩
abbrev main_call3_call0_v19 : Ref sig .tc := ⟨.hbm, 634, rfl⟩
abbrev main_call3_call0_c_1 : Ref sig .tc := ⟨.hbm, 635, rfl⟩
abbrev main_call3_call0_v20 : Ref sig .tc := ⟨.hbm, 636, rfl⟩
abbrev main_call3_call0_v21 : Ref sig .tc := ⟨.hbm, 637, rfl⟩
abbrev main_call3_call0_c_2 : Ref sig .tc := ⟨.hbm, 638, rfl⟩
abbrev main_call3_call0_v22 : Ref sig .tc := ⟨.hbm, 639, rfl⟩
abbrev main_call3_call0_v23 : Ref sig .tc := ⟨.hbm, 640, rfl⟩
abbrev main_call3_call0_v24 : Ref sig .tc := ⟨.hbm, 641, rfl⟩
abbrev main_call3_call0_c_3 : Ref sig .tc := ⟨.hbm, 642, rfl⟩
abbrev main_call3_call0_v25 : Ref sig .tc := ⟨.hbm, 643, rfl⟩
abbrev main_call3_call0_v26 : Ref sig .tc := ⟨.hbm, 644, rfl⟩
abbrev main_call3_call0_c_4 : Ref sig .tc := ⟨.hbm, 645, rfl⟩
abbrev main_call3_call0_v27 : Ref sig .tc := ⟨.hbm, 646, rfl⟩
abbrev main_call3_call0_v28 : Ref sig .tc := ⟨.hbm, 647, rfl⟩
abbrev main_call3_call0_v29 : Ref sig .tc := ⟨.hbm, 648, rfl⟩
abbrev main_call3_call0_v30 : Ref sig .tc := ⟨.hbm, 649, rfl⟩
abbrev main_call3_call0_v31 : Ref sig .tc := ⟨.hbm, 650, rfl⟩
abbrev main_call3_call0_v32 : Ref sig .tc := ⟨.hbm, 651, rfl⟩
abbrev main_call3_call0_v33 : Ref sig .tc := ⟨.hbm, 652, rfl⟩
abbrev main_call3_call0_v34 : Ref sig .tc := ⟨.hbm, 653, rfl⟩
abbrev main_call3_call0_v35 : Ref sig .tc := ⟨.hbm, 654, rfl⟩
abbrev main_call3_v0 : Ref sig .tc := ⟨.hbm, 655, rfl⟩
abbrev main_call3_call1_v0 : Ref sig .tc := ⟨.hbm, 656, rfl⟩
abbrev main_call3_call1_c : Ref sig .tc := ⟨.hbm, 657, rfl⟩
abbrev main_call3_call1_v1 : Ref sig .tc := ⟨.hbm, 658, rfl⟩
abbrev main_call3_call1_v2 : Ref sig .tc := ⟨.hbm, 659, rfl⟩
abbrev main_call3_call1_v3 : Ref sig .tc := ⟨.hbm, 660, rfl⟩
abbrev main_call3_call1_c_0 : Ref sig .tc := ⟨.hbm, 661, rfl⟩
abbrev main_call3_call1_v4 : Ref sig .tc := ⟨.hbm, 662, rfl⟩
abbrev main_call3_call1_v5 : Ref sig .tc := ⟨.hbm, 663, rfl⟩
abbrev main_call3_call1_v6 : Ref sig .tc := ⟨.hbm, 664, rfl⟩
abbrev main_call3_call1_v7 : Ref sig .tc := ⟨.hbm, 665, rfl⟩
abbrev main_call3_call1_v8 : Ref sig .tc := ⟨.hbm, 666, rfl⟩
abbrev main_call3_call1_v9 : Ref sig .tc := ⟨.hbm, 667, rfl⟩
abbrev main_call3_call1_v10 : Ref sig .tc := ⟨.hbm, 668, rfl⟩
abbrev main_call3_call1_v11 : Ref sig .tc := ⟨.hbm, 669, rfl⟩
abbrev main_call3_call1_v12 : Ref sig .tc := ⟨.hbm, 670, rfl⟩
abbrev main_call3_call1_v13 : Ref sig .tc := ⟨.hbm, 671, rfl⟩
abbrev main_call3_call1_v14 : Ref sig .tc := ⟨.hbm, 672, rfl⟩
abbrev main_call3_call1_v15 : Ref sig .tc := ⟨.hbm, 673, rfl⟩
abbrev main_call3_call1_v16 : Ref sig .tc := ⟨.hbm, 674, rfl⟩
abbrev main_call3_call1_v17 : Ref sig .tc := ⟨.hbm, 675, rfl⟩
abbrev main_call3_call1_v18 : Ref sig .tc := ⟨.hbm, 676, rfl⟩
abbrev main_call3_call1_v19 : Ref sig .tc := ⟨.hbm, 677, rfl⟩
abbrev main_call3_call1_c_1 : Ref sig .tc := ⟨.hbm, 678, rfl⟩
abbrev main_call3_call1_v20 : Ref sig .tc := ⟨.hbm, 679, rfl⟩
abbrev main_call3_call1_v21 : Ref sig .tc := ⟨.hbm, 680, rfl⟩
abbrev main_call3_call1_c_2 : Ref sig .tc := ⟨.hbm, 681, rfl⟩
abbrev main_call3_call1_v22 : Ref sig .tc := ⟨.hbm, 682, rfl⟩
abbrev main_call3_call1_v23 : Ref sig .tc := ⟨.hbm, 683, rfl⟩
abbrev main_call3_call1_v24 : Ref sig .tc := ⟨.hbm, 684, rfl⟩
abbrev main_call3_call1_c_3 : Ref sig .tc := ⟨.hbm, 685, rfl⟩
abbrev main_call3_call1_v25 : Ref sig .tc := ⟨.hbm, 686, rfl⟩
abbrev main_call3_call1_v26 : Ref sig .tc := ⟨.hbm, 687, rfl⟩
abbrev main_call3_call1_c_4 : Ref sig .tc := ⟨.hbm, 688, rfl⟩
abbrev main_call3_call1_v27 : Ref sig .tc := ⟨.hbm, 689, rfl⟩
abbrev main_call3_call1_v28 : Ref sig .tc := ⟨.hbm, 690, rfl⟩
abbrev main_call3_call1_v29 : Ref sig .tc := ⟨.hbm, 691, rfl⟩
abbrev main_call3_call1_v30 : Ref sig .tc := ⟨.hbm, 692, rfl⟩
abbrev main_call3_call1_v31 : Ref sig .tc := ⟨.hbm, 693, rfl⟩
abbrev main_call3_call1_v32 : Ref sig .tc := ⟨.hbm, 694, rfl⟩
abbrev main_call3_call1_v33 : Ref sig .tc := ⟨.hbm, 695, rfl⟩
abbrev main_call3_call1_v34 : Ref sig .tc := ⟨.hbm, 696, rfl⟩
abbrev main_call3_call1_v35 : Ref sig .tc := ⟨.hbm, 697, rfl⟩
abbrev main_call3_v1 : Ref sig .tc := ⟨.hbm, 698, rfl⟩
abbrev main_call3_v2 : Ref sig .tc := ⟨.hbm, 699, rfl⟩
abbrev main_call3_v3 : Ref sig .tc := ⟨.hbm, 700, rfl⟩
abbrev main_call3_call2_v0 : Ref sig .tc := ⟨.hbm, 701, rfl⟩
abbrev main_call3_call2_cst : Ref sig .tc := ⟨.hbm, 702, rfl⟩
abbrev main_call3_call2_c : Ref sig .tc := ⟨.hbm, 703, rfl⟩
abbrev main_call3_call2_v1_0 : Ref sig .tc := ⟨.hbm, 704, rfl⟩
abbrev main_call3_v4 : Ref sig .tc := ⟨.hbm, 705, rfl⟩
abbrev main_call3_v5 : Ref sig .tc := ⟨.hbm, 706, rfl⟩
abbrev main_call3_call3_c : Ref sig .tc := ⟨.hbm, 707, rfl⟩
abbrev main_call3_call3_v0 : Ref sig .tc := ⟨.hbm, 708, rfl⟩
abbrev main_call3_call3_v1 : Ref sig .tc := ⟨.hbm, 709, rfl⟩
abbrev main_call3_call3_c_0 : Ref sig .tc := ⟨.hbm, 710, rfl⟩
abbrev main_call3_call3_v2 : Ref sig .tc := ⟨.hbm, 711, rfl⟩
abbrev main_call3_call3_v3 : Ref sig .tc := ⟨.hbm, 712, rfl⟩
abbrev main_call3_call3_v4 : Ref sig .tc := ⟨.hbm, 713, rfl⟩
abbrev main_call3_call3_v5 : Ref sig .tc := ⟨.hbm, 714, rfl⟩
abbrev main_call3_call3_c_1 : Ref sig .tc := ⟨.hbm, 715, rfl⟩
abbrev main_call3_call3_c_2 : Ref sig .tc := ⟨.hbm, 716, rfl⟩
abbrev main_call3_call3_v6 : Ref sig .tc := ⟨.hbm, 717, rfl⟩
abbrev main_call3_call3_v7 : Ref sig .tc := ⟨.hbm, 718, rfl⟩
abbrev main_call3_call3_v8 : Ref sig .tc := ⟨.hbm, 719, rfl⟩
abbrev main_call3_call3_v9 : Ref sig .tc := ⟨.hbm, 720, rfl⟩
abbrev main_call3_call3_v10 : Ref sig .tc := ⟨.hbm, 721, rfl⟩
abbrev main_call3_call3_v11 : Ref sig .tc := ⟨.hbm, 722, rfl⟩
abbrev main_call3_call3_c_3 : Ref sig .tc := ⟨.hbm, 723, rfl⟩
abbrev main_call3_call3_v12 : Ref sig .tc := ⟨.hbm, 724, rfl⟩
abbrev main_call3_call3_v13 : Ref sig .tc := ⟨.hbm, 725, rfl⟩
abbrev main_call3_call3_cst : Ref sig .tc := ⟨.hbm, 726, rfl⟩
abbrev main_call3_call3_v14 : Ref sig .tc := ⟨.hbm, 727, rfl⟩
abbrev main_call3_v6 : Ref sig .tc := ⟨.hbm, 728, rfl⟩
abbrev main_call3_v7 : Ref sig .tc := ⟨.hbm, 729, rfl⟩
abbrev main_call3_call4_v0 : Ref sig .tc := ⟨.hbm, 730, rfl⟩
abbrev main_call3_call4_v1 : Ref sig .tc := ⟨.hbm, 731, rfl⟩
abbrev main_call3_call4_c : Ref sig .tc := ⟨.hbm, 732, rfl⟩
abbrev main_call3_call4_call0_v0 : Ref sig .tc := ⟨.hbm, 733, rfl⟩
abbrev main_call3_call4_call0_v1 : Ref sig .tc := ⟨.hbm, 734, rfl⟩
abbrev main_call3_call4_call0_v2 : Ref sig .tc := ⟨.hbm, 735, rfl⟩
abbrev main_call3_call4_call0_v3 : Ref sig .tc := ⟨.hbm, 736, rfl⟩
abbrev main_call3_call4_call0_v4 : Ref sig .tc := ⟨.hbm, 737, rfl⟩
abbrev main_call3_call4_call0_v5 : Ref sig .tc := ⟨.hbm, 738, rfl⟩
abbrev main_call3_call4_call0_v6 : Ref sig .tc := ⟨.hbm, 739, rfl⟩
abbrev main_call3_call4_call0_v7 : Ref sig .tc := ⟨.hbm, 740, rfl⟩
abbrev main_call3_call4_call0_v8 : Ref sig .tc := ⟨.hbm, 741, rfl⟩
abbrev main_call3_call4_call0_c : Ref sig .tc := ⟨.hbm, 742, rfl⟩
abbrev main_call3_call4_call0_v9 : Ref sig .tc := ⟨.hbm, 743, rfl⟩
abbrev main_call3_call4_call0_v10 : Ref sig .tc := ⟨.hbm, 744, rfl⟩
abbrev main_call3_call4_call0_v11 : Ref sig .tc := ⟨.hbm, 745, rfl⟩
abbrev main_call3_call4_call0_c_0 : Ref sig .tc := ⟨.hbm, 746, rfl⟩
abbrev main_call3_call4_call0_v12 : Ref sig .tc := ⟨.hbm, 747, rfl⟩
abbrev main_call3_call4_call0_v13 : Ref sig .tc := ⟨.hbm, 748, rfl⟩
abbrev main_call3_call4_v2 : Ref sig .tc := ⟨.hbm, 749, rfl⟩
abbrev main_call3_call4_c_0 : Ref sig .tc := ⟨.hbm, 750, rfl⟩
abbrev main_call3_call4_v3 : Ref sig .tc := ⟨.hbm, 751, rfl⟩
abbrev main_call3_call4_v4 : Ref sig .tc := ⟨.hbm, 752, rfl⟩
abbrev main_call3_call4_c_1 : Ref sig .tc := ⟨.hbm, 753, rfl⟩
abbrev main_call3_call4_call1_v0 : Ref sig .tc := ⟨.hbm, 754, rfl⟩
abbrev main_call3_call4_call1_v1 : Ref sig .tc := ⟨.hbm, 755, rfl⟩
abbrev main_call3_call4_call1_v2 : Ref sig .tc := ⟨.hbm, 756, rfl⟩
abbrev main_call3_call4_call1_v3 : Ref sig .tc := ⟨.hbm, 757, rfl⟩
abbrev main_call3_call4_call1_v4 : Ref sig .tc := ⟨.hbm, 758, rfl⟩
abbrev main_call3_call4_call1_v5 : Ref sig .tc := ⟨.hbm, 759, rfl⟩
abbrev main_call3_call4_call1_v6 : Ref sig .tc := ⟨.hbm, 760, rfl⟩
abbrev main_call3_call4_call1_v7 : Ref sig .tc := ⟨.hbm, 761, rfl⟩
abbrev main_call3_call4_call1_v8 : Ref sig .tc := ⟨.hbm, 762, rfl⟩
abbrev main_call3_call4_call1_c : Ref sig .tc := ⟨.hbm, 763, rfl⟩
abbrev main_call3_call4_call1_v9 : Ref sig .tc := ⟨.hbm, 764, rfl⟩
abbrev main_call3_call4_call1_v10 : Ref sig .tc := ⟨.hbm, 765, rfl⟩
abbrev main_call3_call4_call1_v11 : Ref sig .tc := ⟨.hbm, 766, rfl⟩
abbrev main_call3_call4_call1_c_0 : Ref sig .tc := ⟨.hbm, 767, rfl⟩
abbrev main_call3_call4_call1_v12 : Ref sig .tc := ⟨.hbm, 768, rfl⟩
abbrev main_call3_call4_call1_v13 : Ref sig .tc := ⟨.hbm, 769, rfl⟩
abbrev main_call3_call4_v5 : Ref sig .tc := ⟨.hbm, 770, rfl⟩
abbrev main_call3_call4_c_2 : Ref sig .tc := ⟨.hbm, 771, rfl⟩
abbrev main_call3_call4_v6 : Ref sig .tc := ⟨.hbm, 772, rfl⟩
abbrev main_call3_call4_v7 : Ref sig .tc := ⟨.hbm, 773, rfl⟩
abbrev main_call3_call4_c_3 : Ref sig .tc := ⟨.hbm, 774, rfl⟩
abbrev main_call3_call4_v8 : Ref sig .tc := ⟨.hbm, 775, rfl⟩
abbrev main_call3_call4_v9 : Ref sig .tc := ⟨.hbm, 776, rfl⟩
abbrev main_call3_call4_v10 : Ref sig .tc := ⟨.hbm, 777, rfl⟩
abbrev main_call3_call4_c_4 : Ref sig .tc := ⟨.hbm, 778, rfl⟩
abbrev main_call3_call4_v11 : Ref sig .tc := ⟨.hbm, 779, rfl⟩
abbrev main_call3_call4_v12 : Ref sig .tc := ⟨.hbm, 780, rfl⟩
abbrev main_call3_call4_c_5 : Ref sig .tc := ⟨.hbm, 781, rfl⟩
abbrev main_call3_call4_v13 : Ref sig .tc := ⟨.hbm, 782, rfl⟩
abbrev main_call3_call4_v14 : Ref sig .tc := ⟨.hbm, 783, rfl⟩
abbrev main_call3_call4_v15 : Ref sig .tc := ⟨.hbm, 784, rfl⟩
abbrev main_call3_call4_c_6 : Ref sig .tc := ⟨.hbm, 785, rfl⟩
abbrev main_call3_call4_v16 : Ref sig .tc := ⟨.hbm, 786, rfl⟩
abbrev main_call3_call4_v17 : Ref sig .tc := ⟨.hbm, 787, rfl⟩
abbrev main_call3_call4_v18 : Ref sig .tc := ⟨.hbm, 788, rfl⟩
abbrev main_call3_call4_v19 : Ref sig .tc := ⟨.hbm, 789, rfl⟩
abbrev main_call3_call4_v20 : Ref sig .tc := ⟨.hbm, 790, rfl⟩
abbrev main_call3_call4_v21 : Ref sig .tc := ⟨.hbm, 791, rfl⟩
abbrev main_call3_call4_v22 : Ref sig .tc := ⟨.hbm, 792, rfl⟩
abbrev main_call3_call4_v23 : Ref sig .tc := ⟨.hbm, 793, rfl⟩
abbrev main_call3_call4_v24 : Ref sig .tc := ⟨.hbm, 794, rfl⟩
abbrev main_call3_call4_c_7 : Ref sig .tc := ⟨.hbm, 795, rfl⟩
abbrev main_call3_call4_v25 : Ref sig .tc := ⟨.hbm, 796, rfl⟩
abbrev main_call3_call4_v26 : Ref sig .tc := ⟨.hbm, 797, rfl⟩
abbrev main_call3_call4_c_8 : Ref sig .tc := ⟨.hbm, 798, rfl⟩
abbrev main_call3_call4_v27 : Ref sig .tc := ⟨.hbm, 799, rfl⟩
abbrev main_call3_call4_v28 : Ref sig .tc := ⟨.hbm, 800, rfl⟩
abbrev main_call3_call4_v29 : Ref sig .tc := ⟨.hbm, 801, rfl⟩
abbrev main_call3_call4_c_9 : Ref sig .tc := ⟨.hbm, 802, rfl⟩
abbrev main_call3_call4_v30 : Ref sig .tc := ⟨.hbm, 803, rfl⟩
abbrev main_call3_call4_v31 : Ref sig .tc := ⟨.hbm, 804, rfl⟩
abbrev main_call3_call4_c_10 : Ref sig .tc := ⟨.hbm, 805, rfl⟩
abbrev main_call3_call4_v32 : Ref sig .tc := ⟨.hbm, 806, rfl⟩
abbrev main_call3_call4_v33 : Ref sig .tc := ⟨.hbm, 807, rfl⟩
abbrev main_call3_call4_v34 : Ref sig .tc := ⟨.hbm, 808, rfl⟩
abbrev main_call3_call4_v35 : Ref sig .tc := ⟨.hbm, 809, rfl⟩
abbrev main_call3_call4_v36 : Ref sig .tc := ⟨.hbm, 810, rfl⟩
abbrev main_call3_call4_v37 : Ref sig .tc := ⟨.hbm, 811, rfl⟩
abbrev main_call3_call4_v38 : Ref sig .tc := ⟨.hbm, 812, rfl⟩
abbrev main_call3_call4_v39 : Ref sig .tc := ⟨.hbm, 813, rfl⟩
abbrev main_call3_call4_v40 : Ref sig .tc := ⟨.hbm, 814, rfl⟩
abbrev main_v4 : Ref sig .tc := ⟨.hbm, 815, rfl⟩
abbrev main_v5 : Ref sig .tc := ⟨.hbm, 816, rfl⟩

abbrev nD : Nat := 1
abbrev τ : Topo := Topo.v7x

variable {F : FTy → Type} [FloatOps F]
-- ==== Proof.Spec.lean ====
module

public import Mathlib.Data.EReal.Basic
public import Mathlib.Data.EReal.Operations

/-! The mathematics of the two pools, over planes of extended reals. -/

@[expose] public section

noncomputable section

namespace Cert.Spec

/-- The distance of two numbers. -/
def dist (a b : EReal) : EReal := max (a - b) (-(a - b))

/-- Of the first `n + 1` pairs `(d k, c k)`, the one whose `d` is best by `r`, the earliest of them at a draw. -/
def pick (r : EReal → EReal → Prop) [DecidableRel r] (d c : Nat → EReal) : Nat → EReal × EReal
  | 0 => (d 0, c 0)
  | n + 1 => if r (d (n + 1)) (pick r d c n).1 then (d (n + 1), c (n + 1)) else pick r d c n

/-- Of the nine pixels of the 3 by 3 window at stride 2 with number `(i, j)`, row by row, the one of `y` where the
    distance of `x` and `y` is best by `r`. -/
def best (r : EReal → EReal → Prop) [DecidableRel r] (x y : Nat → Nat → EReal) (i j : Nat) : EReal :=
  (pick r (fun k => dist (x (2 * i + k / 3) (2 * j + k % 3)) (y (2 * i + k / 3) (2 * j + k % 3)))
    (fun k => y (2 * i + k / 3) (2 * j + k % 3)) 8).2

/-- A pool of the planes: each pixel that some window covers takes the value of the last such window; the last row
    and the last column keep the pixel of `y`. -/
def pool (r : EReal → EReal → Prop) [DecidableRel r] (x y : Nat → Nat → EReal) (p q : Nat) : EReal :=
  if p < 2047 ∧ q < 2047 then best r x y (min (p / 2) 1022) (min (q / 2) 1022) else y p q

/-- The pool by the smallest distance plus the pool by the largest one. -/
def total (x y : Nat → Nat → EReal) (p q : Nat) : EReal :=
  pool (· < ·) x y p q + pool (· > ·) x y p q

/-- An image of 2048 by 2048 pixels as a plane over all numbers, zero outside. -/
def plane (v : Fin 2048 → Fin 2048 → EReal) (r c : Nat) : EReal :=
  if h : r < 2048 ∧ c < 2048 then v ⟨r, h.1⟩ ⟨c, h.2⟩ else 0

/-- Within the image the plane has the image's pixels. -/
theorem plane_of_lt (v : Fin 2048 → Fin 2048 → EReal) {r c : Nat} (hr : r < 2048) (hc : c < 2048) :
    plane v r c = v ⟨r, hr⟩ ⟨c, hc⟩ := dif_pos ⟨hr, hc⟩

/-- The choice depends on the pairs up to the last one only. -/
theorem pick_congr (r : EReal → EReal → Prop) [DecidableRel r] {d d' c c' : Nat → EReal} :
    ∀ n : Nat, (∀ k ≤ n, d k = d' k) → (∀ k ≤ n, c k = c' k) → pick r d c n = pick r d' c' n
  | 0, hd, hc => by rw [pick, pick, hd 0 le_rfl, hc 0 le_rfl]
  | n + 1, hd, hc => by
    rw [pick, pick, pick_congr r n (fun k h => hd k (Nat.le_succ_of_le h)) fun k h => hc k (Nat.le_succ_of_le h),
      hd _ le_rfl, hc _ le_rfl]

end Cert.Spec

end
-- ==== Proof.Block.lean ====
module

public import proofs.«01_k».proof.Proof.Gen.KernelIdeal.Frame
public import proofs.«01_k».proof.Proof.Spec
public import Idealize.ShloMosaic.Lib.Pointwise
public import Idealize.ShloMosaic.PureOps.Ideal.Laws

/-! What one grid point of the kernel computes, as an expression over its rows. -/

@[expose] public section

noncomputable section

namespace Cert.Block

open Cert.KernelIdeal Cert.KernelIdeal.Gen Idealize.ShloMosaic

/-- Sixty-four rows of numbers. -/
abbrev Rows := FVec Ideal S64x2048 .f32

/-- One row of numbers. -/
abbrev Row := FVec Ideal S1x2048 .f32

/-- The columns turned left by one. -/
def left1 (v : Rows) : Rows :=
  concatenate S64x2048 1 [⟨S64x2047, extractStridedSlice S64x2047 ![0, 1] v slices_S64x2048_o0_1_S64x2047⟩,
    ⟨S64x1, extractStridedSlice S64x1 ![0, 0] v slices_S64x2048_o0_0_S64x1⟩] concatenates_S64x2047_S64x1_S64x2048_d1

/-- The columns turned left by two. -/
def left2 (v : Rows) : Rows :=
  concatenate S64x2048 1 [⟨S64x2046, extractStridedSlice S64x2046 ![0, 2] v slices_S64x2048_o0_2_S64x2046⟩,
    ⟨S64x2, extractStridedSlice S64x2 ![0, 0] v slices_S64x2048_o0_0_S64x2⟩] concatenates_S64x2046_S64x2_S64x2048_d1

/-- The columns turned right by one. -/
def right1 (v : Rows) : Rows :=
  concatenate S64x2048 1 [⟨S64x1, extractStridedSlice S64x1 ![0, 2047] v slices_S64x2048_o0_2047_S64x1⟩,
    ⟨S64x2047, extractStridedSlice S64x2047 ![0, 0] v slices_S64x2048_o0_0_S64x2047⟩] concatenates_S64x1_S64x2047_S64x2048_d1

/-- The columns turned right by two. -/
def right2 (v : Rows) : Rows :=
  concatenate S64x2048 1 [⟨S64x2, extractStridedSlice S64x2 ![0, 2046] v slices_S64x2048_o0_2046_S64x2⟩,
    ⟨S64x2046, extractStridedSlice S64x2046 ![0, 0] v slices_S64x2048_o0_0_S64x2046⟩] concatenates_S64x2_S64x2046_S64x2048_d1

/-- The rows moved up by one, with `n` as the last. -/
def up (v : Rows) (n : Row) : Rows :=
  concatenate S64x2048 0 [⟨S63x2048, extractStridedSlice S63x2048 ![1, 0] v slices_S64x2048_o1_0_S63x2048⟩,
    ⟨S1x2048, n⟩] concatenates_S63x2048_S1x2048_S64x2048_d0

/-- The rows moved down by one, the first one kept. -/
def down (v : Rows) : Rows :=
  concatenate S64x2048 0 [⟨S1x2048, extractStridedSlice S1x2048 ![0, 0] v slices_S64x2048_o0_0_S1x2048⟩,
    ⟨S63x2048, extractStridedSlice S63x2048 ![0, 0] v slices_S64x2048_o0_0_S63x2048⟩] concatenates_S1x2048_S63x2048_S64x2048_d0

/-- One tap of the search: where `t` is better than the best distance, it and `ct` are taken. -/
def better (p : CmpFPredicate) (t ct : Rows) (b : Rows × Rows) : Rows × Rows :=
  (select (cmpf p t b.1) t b.1, select (cmpf p t b.1) ct b.2)

/-- The search over the nine taps, row by row. -/
def search (p : CmpFPredicate) (d0 d1 d2 c0 c1 c2 : Rows) : Rows × Rows :=
  better p (left2 d2) (left2 c2) (better p (left1 d2) (left1 c2) (better p d2 c2
    (better p (left2 d1) (left2 c1) (better p (left1 d1) (left1 c1) (better p d1 c1
      (better p (left2 d0) (left2 c0) (better p (left1 d0) (left1 c0) (d0, c0))))))))

/-- The chosen values, smallest plus largest, of each column as the first of a window. -/
def chosen (ae ao : Rows) (an : Row) (ce co : Rows) (cn : Row) : Rows :=
  addf (search .olt (absf (subf ae ce)) (absf (subf ao co)) (up (absf (subf ae ce)) (absf (subf an cn))) ce co (up ce cn)).2
    (search .ogt (absf (subf ae ce)) (absf (subf ao co)) (up (absf (subf ae ce)) (absf (subf an cn))) ce co (up ce cn)).2

/-- A one-row mask for all rows. -/
def mask (v : IVec S1x2048 1) : IVec S64x2048 1 :=
  broadcastTo S64x2048 (shapeCast S1x2048 v shapeCasts_S1x2048_S1x2048) broadcasts_S1x2048_S64x2048

/-- Each column takes the value of the last window over it. -/
def spread (s : Rows) : Rows :=
  select (mask k0_pay6) (right2 s) (select (mask k0_pay5) (right1 s) s)

/-- The even rows of the result. -/
def evenRows (i : grid0.Coords) (f ce : Rows) : FVec Ideal S64x1x2048 .f32 :=
  shapeCast S64x1x2048 (select (mask k0_pay7) (addf ce ce)
    (select (broadcastTo S64x2048 (shapeCast S64x1 (k0_pay4 i) shapeCasts_S64x1_S64x1) broadcasts_S64x1_S64x2048) (down f) f))
    shapeCasts_S64x2048_S64x1x2048

/-- The odd rows of the result. -/
def oddRows (i : grid0.Coords) (f co : Rows) : FVec Ideal S64x1x2048 .f32 :=
  shapeCast S64x1x2048 (select (ori (broadcastTo S64x2048 (k0_pay4 i) broadcasts_S64x1_S64x2048)
    (broadcastTo S64x2048 k0_pay7 broadcasts_S1x2048_S64x2048)) (addf co co) f) shapeCasts_S64x2048_S64x1x2048

/-- The even rows of a window's block. -/
def evens (x : Vec Ideal S64x2x2048 .f32) : Rows := shapeCast S64x2048 (View.ld x r0_0) shapeCasts_S64x1x2048_S64x2048

/-- The odd rows of a window's block. -/
def odds (x : Vec Ideal S64x2x2048 .f32) : Rows := shapeCast S64x2048 (View.ld x r0_1) shapeCasts_S64x1x2048_S64x2048

/-- The first row of a halo block. -/
def first (x : Vec Ideal S1x2x2048 .f32) : Row := shapeCast S1x2048 (View.ld x r0_2) shapeCasts_S1x1x2048_S1x2048

/-- The spread of the chosen values of a block of the anchor `a` and the compared image `c`, with their halos. -/
def fill (a c : Vec Ideal S64x2x2048 .f32) (an cn : Vec Ideal S1x2x2048 .f32) : Rows :=
  spread (chosen (evens a) (odds a) (first an) (evens c) (odds c) (first cn))

/-- What a grid point writes of one result. -/
def block (i : grid0.Coords) (a c : Vec Ideal S64x2x2048 .f32) (an cn : Vec Ideal S1x2x2048 .f32) : Vec Ideal S64x2x2048 .f32 :=
  View.canon [⟨r0_1, oddRows i (fill a c an cn) (odds c)⟩, ⟨r0_0, evenRows i (fill a c an cn) (evens c)⟩]

variable (i : grid0.Coords) (x0 x1 x2 : Vec Ideal S64x2x2048 .f32) (x3 x4 x5 : Vec Ideal S1x2x2048 .f32)

set_option maxRecDepth 65536 in
set_option maxHeartbeats 4000000 in
/-- The first result's block. -/
theorem out0_6_eq : out0_6 (F := Ideal) i x0 x1 x2 x3 x4 x5 = block i x0 x1 x3 x4 := by
  unfold_out out0_6
  simp only [block, fill, evens, odds, first, evenRows, oddRows, spread, mask, chosen, search, better, left1, left2, right1, right2,
    up, down,
    k0_pay43, k0_pay44, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42]

set_option maxRecDepth 65536 in
set_option maxHeartbeats 4000000 in
/-- The second result's block. -/
theorem out0_7_eq : out0_7 (F := Ideal) i x0 x1 x2 x3 x4 x5 = block i x0 x2 x3 x5 := by
  unfold_out out0_7
  simp only [block, fill, evens, odds, first, evenRows, oddRows, spread, mask, chosen, search, better, left1, left2, right1, right2,
    up, down,
    k0_pay1, k0_pay2, k0_pay3, k0_pay8, k0_pay9, k0_pay10, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91]

end Cert.Block

end
-- ==== Proof.BlockVal.lean ====
module

public import proofs.«01_k».proof.Proof.Block

/-! The value of a grid point's block, entry by entry. -/

@[expose] public section

noncomputable section

namespace Cert.Block

open Cert.KernelIdeal Cert.KernelIdeal.Gen Cert.Spec Idealize.ShloMosaic

/-- A column turned left by one, away from the last column. -/
theorem left1_apply (v : Rows) (w : Fin 64) (q : Nat) (h : q + 1 < 2048) :
    left1 v (ix2 w ⟨q, by omega⟩) = v (ix2 w ⟨q + 1, h⟩) := by
  pointwise [left1]
  rw [dif_pos (by omega)]
  exact congrArg v (congrArg (ix2 w) (Fin.ext (by dsimp only; omega)))

/-- A column turned left by two, away from the last two columns. -/
theorem left2_apply (v : Rows) (w : Fin 64) (q : Nat) (h : q + 2 < 2048) :
    left2 v (ix2 w ⟨q, by omega⟩) = v (ix2 w ⟨q + 2, h⟩) := by
  pointwise [left2]
  rw [dif_pos (by omega)]
  exact congrArg v (congrArg (ix2 w) (Fin.ext (by dsimp only; omega)))

/-- A column turned right by one, from the second column on. -/
theorem right1_apply (v : Rows) (w : Fin 64) (q : Nat) (h : q + 1 < 2048) :
    right1 v (ix2 w ⟨q + 1, h⟩) = v (ix2 w ⟨q, by omega⟩) := by
  pointwise [right1]
  rw [dif_neg (by omega)]
  exact congrArg v (congrArg (ix2 w) (Fin.ext (by dsimp only; omega)))

/-- A column turned right by two, from the third column on. -/
theorem right2_apply (v : Rows) (w : Fin 64) (q : Nat) (h : q + 2 < 2048) :
    right2 v (ix2 w ⟨q + 2, h⟩) = v (ix2 w ⟨q, by omega⟩) := by
  pointwise [right2]
  rw [dif_neg (by omega)]
  exact congrArg v (congrArg (ix2 w) (Fin.ext (by dsimp only; omega)))

/-- A row but the last takes the next row. -/
theorem up_apply_of_lt (v : Rows) (n : Row) (w : Nat) (q : Fin 2048) (h : w + 1 < 64) :
    up v n (ix2 ⟨w, by omega⟩ q) = v (ix2 ⟨w + 1, h⟩ q) := by
  pointwise [up]
  rw [dif_pos (by omega)]
  exact congrArg v (congrArg (fun r => ix2 r q) (Fin.ext (by dsimp only; omega)))

/-- The last row takes the row beyond. -/
theorem up_apply_last (v : Rows) (n : Row) (q : Fin 2048) : up v n (ix2 63 q) = n (ix2 0 q) := by
  pointwise [up]

/-- A row but the first takes the row before. -/
theorem down_apply (v : Rows) (w : Nat) (q : Fin 2048) (h : w + 1 < 64) :
    down v (ix2 ⟨w + 1, h⟩ q) = v (ix2 ⟨w, by omega⟩ q) := by
  pointwise [down]
  rw [dif_neg (by omega)]
  exact congrArg v (congrArg (fun r => ix2 r q) (Fin.ext (by dsimp only; omega)))

/-- A one-row mask, read in any row. -/
theorem mask_apply (v : IVec S1x2048 1) (w : Fin 64) (q : Fin 2048) : mask v (ix2 w q) = v (ix2 0 q) := by
  pointwise [mask]

/-- The mask of the odd columns. -/
theorem odd_apply (q : Fin 2048) : k0_pay5 (ix2 (0 : Fin 1) q) = BitVec.ofBool (decide (q.val % 2 = 1)) := by
  pointwise [k0_pay5]
  revert q; decide +kernel

/-- The mask of the last column but one. -/
theorem c2046_apply (q : Fin 2048) : k0_pay6 (ix2 (0 : Fin 1) q) = BitVec.ofBool (decide (q.val = 2046)) := by
  pointwise [k0_pay6]
  revert q; decide +kernel

/-- The mask of the last column. -/
theorem c2047_apply (q : Fin 2048) : k0_pay7 (ix2 (0 : Fin 1) q) = BitVec.ofBool (decide (q.val = 2047)) := by
  pointwise [k0_pay7]
  revert q; decide +kernel

/-- The mask of the last pair of rows of all. -/
theorem last_apply (i : grid0.Coords) (w : Fin 64) :
    k0_pay4 i (ix2 w (0 : Fin 1)) = BitVec.ofBool (decide (64 * (i 0).val + w.val = 1023)) := by
  have all : ∀ (t : Fin 16) (w : Fin 64),
      IntOp.cmpi .eq (IntOp.addi (BitVec.ofNat 32 w.val) (Scalar.muli (BitVec.ofNat 32 t.val) 64#32)) 1023#32
        = BitVec.ofBool (decide (64 * t.val + w.val = 1023)) := by decide +kernel
  pointwise [k0_pay4]
  exact all (i 0) w

/-- Choosing by the mask of a condition. -/
theorem select_ofBool {α : Type} (p : Prop) [Decidable p] (a b : α) :
    Scalar.select (BitVec.ofBool (decide p)) a b = if p then a else b := by
  by_cases h : p <;> simp [h, Scalar.select]

/-- One tap keeps the best of the pairs so far. -/
theorem better_pick (r : EReal → EReal → Prop) [DecidableRel r] (p : CmpFPredicate)
    (hp : ∀ x y : Ideal .f32, FloatOps.cmpf p x y = BitVec.ofBool (decide (r x y))) {t ct : Rows} {b : Rows × Rows} {i : S64x2048.Idx}
    {d c : Nat → EReal} {n : Nat} (hb : (b.1 i, b.2 i) = pick r d c n) (ht : t i = d (n + 1)) (hc : ct i = c (n + 1)) :
    ((better p t ct b).1 i, (better p t ct b).2 i) = pick r d c (n + 1) := by
  show (Scalar.select (FloatOps.cmpf p (t i) (b.1 i)) (t i) (b.1 i), Scalar.select (FloatOps.cmpf p (t i) (b.1 i)) (ct i) (b.2 i)) = _
  rw [hp, select_ofBool, select_ofBool, pick, ← hb, ht, hc]
  split <;> rfl

/-- The search at a column that begins a window within the image chooses the best of the window's nine pairs. -/
theorem search_val (r : EReal → EReal → Prop) [DecidableRel r] (p : CmpFPredicate)
    (hp : ∀ x y : Ideal .f32, FloatOps.cmpf p x y = BitVec.ofBool (decide (r x y))) (d0 d1 d2 c0 c1 c2 : Rows)
    (w : Fin 64) (q : Nat) (hq : q + 2 < 2048) (D C : Nat → Nat → EReal)
    (hd0 : ∀ x : Fin 2048, d0 (ix2 w x) = D 0 x.val) (hd1 : ∀ x : Fin 2048, d1 (ix2 w x) = D 1 x.val)
    (hd2 : ∀ x : Fin 2048, d2 (ix2 w x) = D 2 x.val)
    (hc0 : ∀ x : Fin 2048, c0 (ix2 w x) = C 0 x.val) (hc1 : ∀ x : Fin 2048, c1 (ix2 w x) = C 1 x.val)
    (hc2 : ∀ x : Fin 2048, c2 (ix2 w x) = C 2 x.val) :
    (search p d0 d1 d2 c0 c1 c2).2 (ix2 w ⟨q, by omega⟩)
      = (pick r (fun k => D (k / 3) (q + k % 3)) (fun k => C (k / 3) (q + k % 3)) 8).2 := by
  have one (v : Rows) (E : Nat → EReal) (h : ∀ x : Fin 2048, v (ix2 w x) = E x.val) :
      left1 v (ix2 w ⟨q, by omega⟩) = E (q + 1) := (left1_apply v w q (by omega)).trans (h _)
  have two (v : Rows) (E : Nat → EReal) (h : ∀ x : Fin 2048, v (ix2 w x) = E x.val) :
      left2 v (ix2 w ⟨q, by omega⟩) = E (q + 2) := (left2_apply v w q hq).trans (h _)
  have b0 : (d0 (ix2 w ⟨q, by omega⟩), c0 (ix2 w ⟨q, by omega⟩))
      = pick r (fun k => D (k / 3) (q + k % 3)) (fun k => C (k / 3) (q + k % 3)) 0 := by
    rw [hd0, hc0]; rfl
  have b1 := better_pick r p hp (i := ix2 w ⟨q, by omega⟩) (b := (d0, c0)) b0 (one d0 _ hd0) (one c0 _ hc0)
  have b2 := better_pick r p hp b1 (two d0 _ hd0) (two c0 _ hc0)
  have b3 := better_pick r p hp b2 (hd1 _) (hc1 _)
  have b4 := better_pick r p hp b3 (one d1 _ hd1) (one c1 _ hc1)
  have b5 := better_pick r p hp b4 (two d1 _ hd1) (two c1 _ hc1)
  have b6 := better_pick r p hp b5 (hd2 _) (hc2 _)
  have b7 := better_pick r p hp b6 (one d2 _ hd2) (one c2 _ hc2)
  have b8 := better_pick r p hp b7 (two d2 _ hd2) (two c2 _ hc2)
  exact congrArg Prod.snd b8

/-- The chosen values at a column that begins a window within the image, when the rows are those of the planes `x` and
    `y` from row `R` on. -/
theorem chosen_val (ae ao : Rows) (an : Row) (ce co : Rows) (cn : Row) (x y : Nat → Nat → EReal) (w : Fin 64) (I q : Nat)
    (hq : q + 2 < 2048)
    (ha0 : ∀ k : Fin 2048, ae (ix2 w k) = x (2 * I) k.val) (ha1 : ∀ k : Fin 2048, ao (ix2 w k) = x (2 * I + 1) k.val)
    (ha2 : ∀ k : Fin 2048, up ae an (ix2 w k) = x (2 * I + 2) k.val)
    (hc0 : ∀ k : Fin 2048, ce (ix2 w k) = y (2 * I) k.val) (hc1 : ∀ k : Fin 2048, co (ix2 w k) = y (2 * I + 1) k.val)
    (hc2 : ∀ k : Fin 2048, up ce cn (ix2 w k) = y (2 * I + 2) k.val) :
    chosen ae ao an ce co cn (ix2 w ⟨q, by omega⟩)
      = (pick (· < ·) (fun k => dist (x (2 * I + k / 3) (q + k % 3)) (y (2 * I + k / 3) (q + k % 3)))
          (fun k => y (2 * I + k / 3) (q + k % 3)) 8).2
        + (pick (· > ·) (fun k => dist (x (2 * I + k / 3) (q + k % 3)) (y (2 * I + k / 3) (q + k % 3)))
          (fun k => y (2 * I + k / 3) (q + k % 3)) 8).2 := by
  have d0 (k : Fin 2048) : absf (subf ae ce) (ix2 w k) = dist (x (2 * I) k.val) (y (2 * I) k.val) := by
    rw [← ha0, ← hc0]; rfl
  have d1 (k : Fin 2048) : absf (subf ao co) (ix2 w k) = dist (x (2 * I + 1) k.val) (y (2 * I + 1) k.val) := by
    rw [← ha1, ← hc1]; rfl
  have d2 (k : Fin 2048) : up (absf (subf ae ce)) (absf (subf an cn)) (ix2 w k)
      = dist (x (2 * I + 2) k.val) (y (2 * I + 2) k.val) := by
    rw [← ha2, ← hc2]
    by_cases h : w.val + 1 < 64
    · rw [show w = ⟨w.val, by omega⟩ from rfl, up_apply_of_lt _ _ _ _ h, up_apply_of_lt _ _ _ _ h, up_apply_of_lt _ _ _ _ h]; rfl
    · obtain rfl : w = 63 := Fin.ext (by show w.val = 63; omega)
      rw [up_apply_last, up_apply_last, up_apply_last]; rfl
  refine congrArg₂ (· + · : EReal → EReal → EReal) ?_ ?_
  · exact search_val (· < ·) .olt (fun a b => rfl) _ _ _ _ _ _ w q hq
      (fun e k => dist (x (2 * I + e) k) (y (2 * I + e) k)) (fun e k => y (2 * I + e) k) d0 d1 d2 hc0 hc1 hc2
  · exact search_val (· > ·) .ogt (fun a b => rfl) _ _ _ _ _ _ w q hq
      (fun e k => dist (x (2 * I + e) k) (y (2 * I + e) k)) (fun e k => y (2 * I + e) k) d0 d1 d2 hc0 hc1 hc2

/-- Each column but the last takes the value of the last window over it. -/
theorem spread_val (s : Rows) (w : Fin 64) (q : Fin 2048) (h : q.val < 2047) :
    spread s (ix2 w q) = s (ix2 w ⟨2 * min (q.val / 2) 1022, by omega⟩) := by
  show Scalar.select (mask k0_pay6 (ix2 w q)) (right2 s (ix2 w q))
    (Scalar.select (mask k0_pay5 (ix2 w q)) (right1 s (ix2 w q)) (s (ix2 w q))) = _
  rw [mask_apply, mask_apply, odd_apply, c2046_apply, select_ofBool, select_ofBool]
  obtain ⟨q, hq⟩ := q
  dsimp only at h ⊢
  split
  · rename_i e
    subst e
    exact right2_apply s w 2044 (by omega)
  · split
    · obtain ⟨p, rfl⟩ : ∃ p, q = p + 1 := ⟨q - 1, by omega⟩
      rw [right1_apply]
      exact congrArg s (congrArg (ix2 w) (Fin.ext (by show p = 2 * min ((p + 1) / 2) 1022; omega)))
    · exact congrArg s (congrArg (ix2 w) (Fin.ext (by show q = 2 * min (q / 2) 1022; omega)))

/-- The even rows of the result. -/
theorem evenRows_val (i : grid0.Coords) (f ce : Rows) (w : Fin 64) (q : Fin 2048) :
    evenRows i f ce (ix3 w (0 : Fin 1) q)
      = if q.val = 2047 then (ce (ix2 w q) + ce (ix2 w q) : EReal)
        else if 64 * (i 0).val + w.val = 1023 then (down f (ix2 w q) : EReal) else (f (ix2 w q) : EReal) := by
  have e : evenRows i f ce (ix3 w (0 : Fin 1) q) = Scalar.select (mask k0_pay7 (ix2 w q)) (addf ce ce (ix2 w q))
      (Scalar.select (k0_pay4 i (ix2 w (0 : Fin 1))) (down f (ix2 w q)) (f (ix2 w q))) := by
    generalize hm : mask k0_pay7 = m
    generalize hg : down f = g
    generalize hl : k0_pay4 i = l
    unfold evenRows
    rw [hm, hg, hl]
    pointwise
  rw [e, mask_apply, c2047_apply, last_apply, select_ofBool, select_ofBool]
  rfl

/-- The odd rows of the result. -/
theorem oddRows_val (i : grid0.Coords) (f co : Rows) (w : Fin 64) (q : Fin 2048) :
    oddRows i f co (ix3 w (0 : Fin 1) q)
      = if 64 * (i 0).val + w.val = 1023 ∨ q.val = 2047 then (co (ix2 w q) + co (ix2 w q) : EReal)
        else (f (ix2 w q) : EReal) := by
  have e : oddRows i f co (ix3 w (0 : Fin 1) q) = Scalar.select
      (IntOp.ori (k0_pay4 i (ix2 w (0 : Fin 1))) (k0_pay7 (ix2 (0 : Fin 1) q))) (addf co co (ix2 w q)) (f (ix2 w q)) := by
    generalize hm : k0_pay7 = m
    generalize hl : k0_pay4 i = l
    unfold oddRows
    rw [hm, hl]
    pointwise
  rw [e, c2047_apply, last_apply]
  by_cases h : 64 * (i 0).val + w.val = 1023 <;> by_cases h' : q.val = 2047 <;>
    simp only [h, h', decide_true, decide_false, true_or, or_true, or_self, if_true, if_false] <;> rfl

end Cert.Block

end
-- ==== Proof.BlockTotal.lean ====
module

public import proofs.«01_k».proof.Proof.BlockVal

/-! A grid point's block is the total of the two pools on the block's rows. -/

@[expose] public section

noncomputable section

namespace Cert.Block

open Cert.KernelIdeal Cert.KernelIdeal.Gen Cert.Spec Idealize.ShloMosaic

/-- The place of an entry of the even rows in the block. -/
theorem emb_even (w : Fin 64) (q : Fin 2048) : r0_0.emb (ix3 w (0 : Fin 1) q) = ix3 w (0 : Fin 2) q := by
  funext a
  match a with
  | ⟨0, _⟩ => exact Fin.ext (by show 0 + 1 * w.val = w.val; omega)
  | ⟨1, _⟩ => rfl
  | ⟨2, _⟩ => exact Fin.ext (by show 0 + 1 * q.val = q.val; omega)

/-- The place of an entry of the odd rows in the block. -/
theorem emb_odd (w : Fin 64) (q : Fin 2048) : r0_1.emb (ix3 w (0 : Fin 1) q) = ix3 w (1 : Fin 2) q := by
  funext a
  match a with
  | ⟨0, _⟩ => exact Fin.ext (by show 0 + 1 * w.val = w.val; omega)
  | ⟨1, _⟩ => rfl
  | ⟨2, _⟩ => exact Fin.ext (by show 0 + 1 * q.val = q.val; omega)

/-- The place of an entry of the first halo row. -/
theorem emb_first (q : Fin 2048) : r0_2.emb (ix3 (0 : Fin 1) (0 : Fin 1) q) = ix3 (0 : Fin 1) (0 : Fin 2) q := by
  funext a
  match a with
  | ⟨0, _⟩ => rfl
  | ⟨1, _⟩ => rfl
  | ⟨2, _⟩ => exact Fin.ext (by show 0 + 1 * q.val = q.val; omega)

/-- The even rows, read. -/
theorem evens_apply (x : Vec Ideal S64x2x2048 .f32) (w : Fin 64) (q : Fin 2048) :
    evens x (ix2 w q) = x (ix3 w (0 : Fin 2) q) := by
  have e : evens x (ix2 w q) = View.ld x r0_0 (ix3 w (0 : Fin 1) q) := by
    unfold evens
    generalize View.ld x r0_0 = v
    pointwise
  exact e.trans (congrArg x (emb_even w q))

/-- The odd rows, read. -/
theorem odds_apply (x : Vec Ideal S64x2x2048 .f32) (w : Fin 64) (q : Fin 2048) :
    odds x (ix2 w q) = x (ix3 w (1 : Fin 2) q) := by
  have e : odds x (ix2 w q) = View.ld x r0_1 (ix3 w (0 : Fin 1) q) := by
    unfold odds
    generalize View.ld x r0_1 = v
    pointwise
  exact e.trans (congrArg x (emb_odd w q))

/-- The halo row, read. -/
theorem first_apply (x : Vec Ideal S1x2x2048 .f32) (q : Fin 2048) :
    first x (ix2 (0 : Fin 1) q) = x (ix3 (0 : Fin 1) (0 : Fin 2) q) := by
  have e : first x (ix2 (0 : Fin 1) q) = View.ld x r0_2 (ix3 (0 : Fin 1) (0 : Fin 1) q) := by
    unfold first
    generalize View.ld x r0_2 = v
    pointwise
  exact e.trans (congrArg x (emb_first q))

/-- The block read at an odd row. -/
theorem block_odd (i : grid0.Coords) (a c : Vec Ideal S64x2x2048 .f32) (an cn : Vec Ideal S1x2x2048 .f32) (w : Fin 64)
    (q : Fin 2048) : block i a c an cn (ix3 w (1 : Fin 2) q) = oddRows i (fill a c an cn) (odds c) (ix3 w (0 : Fin 1) q) := by
  rw [← emb_odd]
  exact View.canon_cons_emb r0_1 _ _ (ix3 w (0 : Fin 1) q)

/-- The block read at an even row. -/
theorem block_even (i : grid0.Coords) (a c : Vec Ideal S64x2x2048 .f32) (an cn : Vec Ideal S1x2x2048 .f32) (w : Fin 64)
    (q : Fin 2048) : block i a c an cn (ix3 w (0 : Fin 2) q) = evenRows i (fill a c an cn) (evens c) (ix3 w (0 : Fin 1) q) := by
  unfold block
  rw [View.canon_cons_of_not_mem _ _ (fun h => by
    have h1 := ((Rect.mem_set_unit (inb := inb_S64x2x2048_S64x1x2048_0_1_0)).mp h (1 : Fin 3)).1
    exact absurd (show 1 ≤ 0 from h1) (by decide)), ← emb_even]
  exact View.canon_cons_emb r0_0 _ _ (ix3 w (0 : Fin 1) q)

section

variable (i : grid0.Coords) (a c : Vec Ideal S64x2x2048 .f32) (an cn : Vec Ideal S1x2x2048 .f32) (x y : Nat → Nat → EReal)
  (ha : ∀ (w : Fin 64) (p : Fin 2) (q : Fin 2048), a (ix3 w p q) = x (2 * (64 * (i 0).val + w.val) + p.val) q.val)
  (hc : ∀ (w : Fin 64) (p : Fin 2) (q : Fin 2048), c (ix3 w p q) = y (2 * (64 * (i 0).val + w.val) + p.val) q.val)
  (han : 64 * (i 0).val + 64 ≤ 1023 → ∀ q : Fin 2048, an (ix3 (0 : Fin 1) (0 : Fin 2) q) = x (2 * (64 * (i 0).val + 64)) q.val)
  (hcn : 64 * (i 0).val + 64 ≤ 1023 → ∀ q : Fin 2048, cn (ix3 (0 : Fin 1) (0 : Fin 2) q) = y (2 * (64 * (i 0).val + 64)) q.val)

/-- The rows below a block's even rows are the plane's next ones, up to the last window. -/
theorem up_val (b : Vec Ideal S64x2x2048 .f32) (n : Vec Ideal S1x2x2048 .f32) (z : Nat → Nat → EReal)
    (hb : ∀ (w : Fin 64) (p : Fin 2) (q : Fin 2048), b (ix3 w p q) = z (2 * (64 * (i 0).val + w.val) + p.val) q.val)
    (hn : 64 * (i 0).val + 64 ≤ 1023 → ∀ q : Fin 2048, n (ix3 (0 : Fin 1) (0 : Fin 2) q) = z (2 * (64 * (i 0).val + 64)) q.val)
    (w : Fin 64) (h : 64 * (i 0).val + w.val ≤ 1022) (q : Fin 2048) :
    up (evens b) (first n) (ix2 w q) = z (2 * (64 * (i 0).val + w.val) + 2) q.val := by
  by_cases hw : w.val + 1 < 64
  · refine (up_apply_of_lt (evens b) (first n) w.val q hw).trans ?_
    rw [evens_apply, hb]
    exact congrArg (fun r => z r q.val)
      (by show 2 * (64 * (i 0).val + (w.val + 1)) + 0 = 2 * (64 * (i 0).val + w.val) + 2; omega)
  · obtain rfl : w = 63 := Fin.ext (by show w.val = 63; omega)
    have h' : 64 * (i 0).val + 63 ≤ 1022 := h
    rw [up_apply_last, first_apply, hn (by omega)]
    exact congrArg (fun r => z r q.val) (by show 2 * (64 * (i 0).val + 64) = 2 * (64 * (i 0).val + 63) + 2; omega)

include ha hc han hcn in
/-- The spread values of a row of windows: the pools' values of the last windows over the row's columns. -/
theorem fill_val (w : Fin 64) (h : 64 * (i 0).val + w.val ≤ 1022) (q : Fin 2048) (hq : q.val < 2047) :
    fill a c an cn (ix2 w q)
      = best (· < ·) x y (64 * (i 0).val + w.val) (min (q.val / 2) 1022)
        + best (· > ·) x y (64 * (i 0).val + w.val) (min (q.val / 2) 1022) := by
  unfold fill
  rw [spread_val _ w q hq]
  exact chosen_val _ _ _ _ _ _ x y w (64 * (i 0).val + w.val) (2 * min (q.val / 2) 1022) (by omega)
    (fun k => (evens_apply a w k).trans (ha w 0 k)) (fun k => (odds_apply a w k).trans (ha w 1 k))
    (up_val i a an x ha han w h)
    (fun k => (evens_apply c w k).trans (hc w 0 k)) (fun k => (odds_apply c w k).trans (hc w 1 k))
    (up_val i c cn y hc hcn w h)

include ha hc han hcn in
/-- What a grid point writes: the total of the two pools on its rows, given its rows and its halos. -/
theorem block_val (w : Fin 64) (p : Fin 2) (q : Fin 2048) :
    block i a c an cn (ix3 w p q) = total x y (2 * (64 * (i 0).val + w.val) + p.val) q.val := by
  have hi : ((i 0 : Fin _) : Nat) < 16 := (i 0).isLt
  have hw := w.isLt
  have hq := q.isLt
  have filled := fill_val i a c an cn x y ha hc han hcn
  obtain rfl | rfl : p = 0 ∨ p = 1 := by omega
  · rw [block_even, evenRows_val, total, Spec.pool, Spec.pool]
    show _ = (if 2 * (64 * (i 0).val + w.val) < 2047 ∧ q.val < 2047 then
        best (· < ·) x y (min (2 * (64 * (i 0).val + w.val) / 2) 1022) (min (q.val / 2) 1022)
        else y (2 * (64 * (i 0).val + w.val)) q.val)
      + (if 2 * (64 * (i 0).val + w.val) < 2047 ∧ q.val < 2047 then
        best (· > ·) x y (min (2 * (64 * (i 0).val + w.val) / 2) 1022) (min (q.val / 2) 1022)
        else y (2 * (64 * (i 0).val + w.val)) q.val)
    by_cases hl : q.val = 2047
    · have hn : ¬(2 * (64 * (i 0).val + w.val) < 2047 ∧ q.val < 2047) := by omega
      rw [if_pos hl, if_neg hn, if_neg hn, evens_apply, hc]; rfl
    · have hy : 2 * (64 * (i 0).val + w.val) < 2047 ∧ q.val < 2047 := by omega
      rw [if_neg hl, if_pos hy, if_pos hy]
      by_cases hr : 64 * (i 0).val + w.val = 1023
      · have e : min (2 * (64 * (i 0).val + w.val) / 2) 1022 = 64 * (i 0).val + 62 := by omega
        have e62 := filled ⟨62, by omega⟩ (by show 64 * (i 0).val + 62 ≤ 1022; omega) q (by omega)
        rw [if_pos hr, e, ← e62]
        have h63 : w = ⟨62 + 1, by omega⟩ := Fin.ext (by show w.val = 63; omega)
        rw [h63]
        exact down_apply _ 62 q (by omega)
      · rw [if_neg hr, filled w (by omega) q (by omega),
          show min (2 * (64 * (i 0).val + w.val) / 2) 1022 = 64 * (i 0).val + w.val by omega]
  · rw [block_odd, oddRows_val, total, Spec.pool, Spec.pool]
    show _ = (if 2 * (64 * (i 0).val + w.val) + 1 < 2047 ∧ q.val < 2047 then
        best (· < ·) x y (min ((2 * (64 * (i 0).val + w.val) + 1) / 2) 1022) (min (q.val / 2) 1022)
        else y (2 * (64 * (i 0).val + w.val) + 1) q.val)
      + (if 2 * (64 * (i 0).val + w.val) + 1 < 2047 ∧ q.val < 2047 then
        best (· > ·) x y (min ((2 * (64 * (i 0).val + w.val) + 1) / 2) 1022) (min (q.val / 2) 1022)
        else y (2 * (64 * (i 0).val + w.val) + 1) q.val)
    by_cases hl : 64 * (i 0).val + w.val = 1023 ∨ q.val = 2047
    · have hn : ¬(2 * (64 * (i 0).val + w.val) + 1 < 2047 ∧ q.val < 2047) := by omega
      rw [if_pos hl, if_neg hn, if_neg hn, odds_apply, hc]; rfl
    · have hy : 2 * (64 * (i 0).val + w.val) + 1 < 2047 ∧ q.val < 2047 := by omega
      rw [if_neg hl, if_pos hy, if_pos hy, filled w (by omega) q (by omega),
        show min ((2 * (64 * (i 0).val + w.val) + 1) / 2) 1022 = 64 * (i 0).val + w.val by omega]

end

end Cert.Block

end
-- ==== Proof.Array.lean ====
module

public import proofs.«01_k».proof.Proof.BlockTotal
public import Idealize.ShloMosaic.Lib.Pipeline.ValueKit
public import Idealize.ShloMosaic.Lib.Claim

/-! What the kernel's two result arrays hold after the run. -/

@[expose] public section

noncomputable section

namespace Cert.Block

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ) (c : Dev nD)

/-- A two-dimensional image as a plane. -/
def image (v : S2048x2048.Idx → EReal) : Nat → Nat → EReal := plane fun r q => v (ix2 r q)

/-- The row pairs of an image, read. -/
theorem pairs_apply (v : S2048x2048.Idx → EReal) (h : S2048x2048.ShapeCasts S1024x2x2048) (r : Fin 1024) (p : Fin 2) (q : Fin 2048) :
    shapeCast S1024x2x2048 (v : S2048x2048.Idx → Elt Ideal .f32) h (ix3 r p q) = image v (2 * r.val + p.val) q.val := by
  refine Eq.trans ?_ (plane_of_lt (fun r q => v (ix2 r q)) (by omega) q.isLt).symm
  pointwise
  exact congrArg (fun k => v (ix2 k q)) (Fin.ext (by dsimp only; omega))

/-- The row pairs of the three images as the region finds them. -/
theorem entry (r : Fin 1024) (p : Fin 2) (q : Fin 2048) :
    V m c main_call0_v0 (ix3 r p q) = image (m ((c : Thread nD τ).loc main_arg0)) (2 * r.val + p.val) q.val
    ∧ V m c main_call0_v1 (ix3 r p q) = image (m ((c : Thread nD τ).loc main_arg1)) (2 * r.val + p.val) q.val
    ∧ V m c main_call0_v2 (ix3 r p q) = image (m ((c : Thread nD τ).loc main_arg2)) (2 * r.val + p.val) q.val := by
  refine ⟨?_, ?_, ?_⟩ <;> (rw [← pairs_apply _ shapeCasts_S2048x2048_S1024x2x2048]; rfl)

/-- Where the windows of the blocks stand: at the grid point's place. -/
theorem block_index : ∀ t : Fin grid0.N,
    win0_0.index t = ![(grid0.coords t 0).val, 0, 0] ∧ win0_1.index t = ![(grid0.coords t 0).val, 0, 0]
      ∧ win0_2.index t = ![(grid0.coords t 0).val, 0, 0] ∧ win0_6.index t = ![(grid0.coords t 0).val, 0, 0]
      ∧ win0_7.index t = ![(grid0.coords t 0).val, 0, 0] := by decide +kernel

/-- Where the windows of the halos stand: at the row pair after the block, held at the last one. -/
theorem halo_index : ∀ t : Fin grid0.N,
    win0_3.index t = ![min (64 * (grid0.coords t 0).val + 64) 1023, 0, 0]
      ∧ win0_4.index t = ![min (64 * (grid0.coords t 0).val + 64) 1023, 0, 0]
      ∧ win0_5.index t = ![min (64 * (grid0.coords t 0).val + 64) 1023, 0, 0] := by decide +kernel

/-- A grid point's blocks of the three images, read. -/
theorem blocks (t : Fin grid0.N) (w : Fin 64) (p : Fin 2) (q : Fin 2048) :
    iblk m c 0 t (ix3 w p q)
      = image (m ((c : Thread nD τ).loc main_arg0)) (2 * (64 * (grid0.coords t 0).val + w.val) + p.val) q.val
    ∧ iblk m c 1 t (ix3 w p q)
      = image (m ((c : Thread nD τ).loc main_arg1)) (2 * (64 * (grid0.coords t 0).val + w.val) + p.val) q.val
    ∧ iblk m c 2 t (ix3 w p q)
      = image (m ((c : Thread nD τ).loc main_arg2)) (2 * (64 * (grid0.coords t 0).val + w.val) + p.val) q.val := by
  have hi : ((grid0.coords t 0 : Fin _) : Nat) < 16 := (grid0.coords t 0).isLt
  obtain ⟨e0, e1, e2⟩ := entry m c ⟨64 * (grid0.coords t 0).val + w.val, by omega⟩ p q
  obtain ⟨i0, i1, i2, -⟩ := block_index t
  refine ⟨Eq.trans ?_ e0, Eq.trans ?_ e1, Eq.trans ?_ e2⟩ <;> (unfold iblk; blk_ext [i0, i1, i2])

/-- The row pairs of the three images after a grid point's block, read at their first row, where there is such a pair. -/
theorem halos (t : Fin grid0.N) (h : 64 * (grid0.coords t 0).val + 64 ≤ 1023) (q : Fin 2048) :
    iblk m c 3 t (ix3 (0 : Fin 1) (0 : Fin 2) q)
      = image (m ((c : Thread nD τ).loc main_arg0)) (2 * (64 * (grid0.coords t 0).val + 64)) q.val
    ∧ iblk m c 4 t (ix3 (0 : Fin 1) (0 : Fin 2) q)
      = image (m ((c : Thread nD τ).loc main_arg1)) (2 * (64 * (grid0.coords t 0).val + 64)) q.val
    ∧ iblk m c 5 t (ix3 (0 : Fin 1) (0 : Fin 2) q)
      = image (m ((c : Thread nD τ).loc main_arg2)) (2 * (64 * (grid0.coords t 0).val + 64)) q.val := by
  obtain ⟨e0, e1, e2⟩ := entry m c ⟨64 * (grid0.coords t 0).val + 64, by omega⟩ (0 : Fin 2) q
  have i := halo_index t
  rw [Nat.min_eq_left h] at i
  obtain ⟨i0, i1, i2⟩ := i
  refine ⟨Eq.trans ?_ e0, Eq.trans ?_ e1, Eq.trans ?_ e2⟩ <;> (unfold iblk; blk_ext [i0, i1, i2])

/-- The first result array after the run: the pooled sums of the anchor and the positive image, in row pairs. -/
theorem arr6 : (dats m 0 c).arrAt 6 cfg0.N = fun j : S1024x2x2048.Idx =>
    total (image (m ((c : Thread nD τ).loc main_arg0))) (image (m ((c : Thread nD τ).loc main_arg1)))
      (2 * (j 0).val + (j 1).val) (j 2).val := by
  refine (dats m 0 c).arrAt_eq_of_covers 6 _ (by decide +kernel) fun t hf y => ?_
  blk_simp
  rw [after0_6, out0_6_eq]
  obtain ⟨w, p, q, rfl⟩ : ∃ (w : Fin 64) (p : Fin 2) (q : Fin 2048), y = ix3 w p q := ⟨y 0, y 1, y 2, eq_ix3 y⟩
  refine Eq.trans (block_val (grid0.coords t) _ _ _ _ _ _ (fun w p q => (blocks m c t w p q).1)
    (fun w p q => (blocks m c t w p q).2.1) (fun h q => (halos m c t h q).1) (fun h q => (halos m c t h q).2.1) w p q) ?_
  blk_simp [(block_index t).2.2.2.1]
  rw [Nat.mul_comm 64]

/-- The second result array after the run: the pooled sums of the anchor and the negative image, in row pairs. -/
theorem arr7 : (dats m 0 c).arrAt 7 cfg0.N = fun j : S1024x2x2048.Idx =>
    total (image (m ((c : Thread nD τ).loc main_arg0))) (image (m ((c : Thread nD τ).loc main_arg2)))
      (2 * (j 0).val + (j 1).val) (j 2).val := by
  refine (dats m 0 c).arrAt_eq_of_covers 7 _ (by decide +kernel) fun t hf y => ?_
  blk_simp
  rw [after0_7, out0_7_eq]
  obtain ⟨w, p, q, rfl⟩ : ∃ (w : Fin 64) (p : Fin 2) (q : Fin 2048), y = ix3 w p q := ⟨y 0, y 1, y 2, eq_ix3 y⟩
  refine Eq.trans (block_val (grid0.coords t) _ _ _ _ _ _ (fun w p q => (blocks m c t w p q).1)
    (fun w p q => (blocks m c t w p q).2.2) (fun h q => (halos m c t h q).1) (fun h q => (halos m c t h q).2.2) w p q) ?_
  blk_simp [(block_index t).2.2.2.2]
  rw [Nat.mul_comm 64]

/-- A row-pair array of pooled sums, read as an image again. -/
theorem whole_apply (f : Nat → Nat → EReal) (h : S1024x2x2048.ShapeCasts S2048x2048) (P Q : Fin 2048) :
    shapeCast S2048x2048 ((fun j => f (2 * (j 0).val + (j 1).val) (j 2).val) : S1024x2x2048.Idx → Elt Ideal .f32) h (ix2 P Q)
      = f P.val Q.val := by
  pointwise
  exact congrArg (fun k => f k Q.val) (by omega)

/-- The region leaves each window's array at what the blocks wrote into it. -/
theorem exit (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt (by decide) (V0 m c) (fun _ => rfl) w

/-- The kernel's first result after the run, read at a pixel. -/
theorem result0 (P Q : Fin 2048) :
    Pipeline.afterTail₀ cfgs (dats m) 0 (V0 m) [hostOps1] c main_v0_0 (ix2 P Q)
      = total (image (m ((c : Thread nD τ).loc main_arg0))) (image (m ((c : Thread nD τ).loc main_arg1))) P.val Q.val := by
  rw [← whole_apply (total (image (m ((c : Thread nD τ).loc main_arg0))) (image (m ((c : Thread nD τ).loc main_arg1))))
    shapeCasts_S1024x2x2048_S2048x2048, ← arr6, ← exit m c 6]
  rfl

/-- The kernel's second result after the run, read at a pixel. -/
theorem result1 (P Q : Fin 2048) :
    Pipeline.afterTail₀ cfgs (dats m) 0 (V0 m) [hostOps1] c main_v0_1 (ix2 P Q)
      = total (image (m ((c : Thread nD τ).loc main_arg0))) (image (m ((c : Thread nD τ).loc main_arg2))) P.val Q.val := by
  rw [← whole_apply (total (image (m ((c : Thread nD τ).loc main_arg0))) (image (m ((c : Thread nD τ).loc main_arg2))))
    shapeCasts_S1024x2x2048_S2048x2048, ← arr7, ← exit m c 7]
  rfl

/-- The image of pooled sums of two images: what either result should hold. -/
def pooled (v w : S2048x2048.Idx → EReal) : S2048x2048.Idx → EReal :=
  fun j => total (image v) (image w) (j 0).val (j 1).val

/-- Every execution of the kernel ends with the two pooled sums in its results and its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v0_0) = pooled (m ((c.tc : Thread nD τ).loc main_arg0)) (m ((c.tc : Thread nD τ).loc main_arg1))
    ∧ r.2.mem ((c.tc : Thread nD τ).loc main_v0_1) = pooled (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  have rest (b : Ref sig .tc) (h₁) (h₂) := (h c).2 b (Pipeline.mem_restRefs_of b h₁ h₂)
  refine ⟨(rest main_v0_0 (by decide) (by decide)).trans (funext fun j => ?_),
    (rest main_v0_1 (by decide) (by decide)).trans (funext fun j => ?_),
    (rest main_arg0 (by decide) (by decide)).trans (W_main_arg0 m (dats m) c),
    (rest main_arg1 (by decide) (by decide)).trans (W_main_arg1 m (dats m) c),
    (rest main_arg2 (by decide) (by decide)).trans (W_main_arg2 m (dats m) c)⟩
  · obtain ⟨P, Q, rfl⟩ : ∃ (P Q : Fin 2048), j = ix2 P Q := ⟨j 0, j 1, eq_ix2 j⟩
    exact result0 m c P Q
  · obtain ⟨P, Q, rfl⟩ : ∃ (P Q : Fin 2048), j = ix2 P Q := ⟨j 0, j 1, eq_ix2 j⟩
    exact result1 m c P Q

end Cert.Block

end
-- ==== Proof.Line.lean ====
/- A straight line of host operations in single-assignment form: each operation writes one buffer, numbered above
   every buffer it reads, and the numbers go up by one along the line. Such a line leaves a memory in which the
   equation of every operation holds. -/
module

public import Idealize.ShloMosaic.Lib.StableHlo.Run
public import Idealize.ShloMosaic.Lib.StableHlo.RunHlo

@[expose] public section

noncomputable section

namespace Cert.Line

open Idealize.ShloMosaic Idealize.ShloMosaic.StableHlo

variable {τ : Topo} {sig : RefSig} {Val : EltTy → Type}

/-- One host operation, kept as the buffers it names and the function it computes. -/
inductive Line (sig : RefSig) (Val : EltTy → Type) where
  | nul {Ty : BufTy} (y : TRef sig Ty) (v : Ty.Contents Val)
  | un {Tx Ty : BufTy} (x : TRef sig Tx) (y : TRef sig Ty) (f : Tx.Contents Val → Ty.Contents Val)
  | bin {Ta Tb Ty : BufTy} (a : TRef sig Ta) (b : TRef sig Tb) (y : TRef sig Ty)
      (f : Ta.Contents Val → Tb.Contents Val → Ty.Contents Val)
  | tern {Tc Ta Tb Ty : BufTy} (c : TRef sig Tc) (a : TRef sig Ta) (b : TRef sig Tb) (y : TRef sig Ty)
      (f : Tc.Contents Val → Ta.Contents Val → Tb.Contents Val → Ty.Contents Val)
  | quat {Ta Tb Tc Te Ty : BufTy} (a : TRef sig Ta) (b : TRef sig Tb) (c : TRef sig Tc) (e : TRef sig Te)
      (y : TRef sig Ty)
      (f : Ta.Contents Val → Tb.Contents Val → Tc.Contents Val → Te.Contents Val → Ty.Contents Val)
  | resh {Tx Ty : BufTy} (x : TRef sig Tx) (y : TRef sig Ty) (he : Tx.elt = Ty.elt)
      (hn : Tx.shape.ShapeCasts Ty.shape)

/-- The number of a buffer. -/
def num {T : BufTy} (x : TRef sig T) : Nat := x.ref.idx.val

/-- What a memory holds at a buffer, at the buffer's own type. -/
def val {T : BufTy} (W : Valuation τ sig Val) (x : TRef sig T) : T.Contents Val :=
  x.ofBuf (W (Proc.devRef .tc x.ref))

/-- The host operation. -/
def Line.op : Line sig Val → HloOp τ sig Val
  | .nul y v => TRef.nullary y v
  | .un x y f => TRef.unary x y f
  | .bin a b y f => TRef.binary a b y f
  | .tern c a b y f => TRef.ternary c a b y f
  | .quat a b c e y f => TRef.quaternary a b c e y f
  | .resh x y he hn => TRef.reshape x y he hn

/-- The number of the buffer that the operation writes. -/
def Line.out : Line sig Val → Nat
  | .nul y _ => num y
  | .un _ y _ => num y
  | .bin _ _ y _ => num y
  | .tern _ _ _ y _ => num y
  | .quat _ _ _ _ y _ => num y
  | .resh _ y _ _ => num y

/-- The numbers of the buffers that it reads. -/
def Line.ins : Line sig Val → List Nat
  | .nul _ _ => []
  | .un x _ _ => [num x]
  | .bin a b _ _ => [num a, num b]
  | .tern c a b _ _ => [num c, num a, num b]
  | .quat a b c e _ _ => [num a, num b, num c, num e]
  | .resh x _ _ _ => [num x]

/-- The operation's equation, read in one memory: the written buffer holds the function of the buffers read. -/
def Line.Holds (W : Valuation τ sig Val) : Line sig Val → Prop
  | .nul y v => val W y = v
  | .un x y f => val W y = f (val W x)
  | .bin a b y f => val W y = f (val W a) (val W b)
  | .tern c a b y f => val W y = f (val W c) (val W a) (val W b)
  | .quat a b c e y f => val W y = f (val W a) (val W b) (val W c) (val W e)
  | .resh (Ty := Ty) x y he hn => val W y = fun i => he ▸ shapeCast Ty.shape (val W x) hn i

/-- The equations of all operations of a line, one after the other. -/
def Holds (W : Valuation τ sig Val) : List (Line sig Val) → Prop
  | [] => True
  | l :: ls => l.Holds W ∧ Holds W ls

/-- The equations of two lines joined are those of the first and those of the second. -/
theorem holds_append (W : Valuation τ sig Val) (l₁ l₂ : List (Line sig Val)) :
    Holds W (l₁ ++ l₂) ↔ Holds W l₁ ∧ Holds W l₂ := by
  induction l₁ with
  | nil => simp [Holds]
  | cons l ls ih => simp only [List.cons_append, Holds, ih, and_assoc]

/-- The numbering, as a check that runs: operation `n` writes buffer `n` and reads buffers below `n`, and so on up
    the line. -/
def numbered : Nat → List (Line sig Val) → Bool
  | _, [] => true
  | n, l :: ls => l.out == n && l.ins.all (· < n) && numbered (n + 1) ls

/-- The number of a device buffer. -/
def dnum (b : DevRef τ sig) : Nat := b.idx.val

/-- The number of a device buffer is that of its reference. -/
theorem dnum_devRef (r : Ref sig .tc) : dnum (Proc.devRef (τ := τ) .tc r) = r.idx.val := rfl

/-- An operation writes only the buffer of its number. -/
theorem Line.writes_num (l : Line sig Val) : ∀ b ∈ (l.op : HloOp τ sig Val).writes, dnum b = l.out := by
  intro b hb
  cases l <;> (cases Finset.mem_singleton.mp hb; rfl)

/-- An operation touches only the buffer it writes and those it reads. -/
theorem Line.bufs_num (l : Line sig Val) :
    ∀ b ∈ (l.op : HloOp τ sig Val).bufs, dnum b = l.out ∨ dnum b ∈ l.ins := by
  intro b hb
  cases l <;> simp only [Line.op, nullary_bufs, unary_bufs, binary_bufs, ternary_bufs, quaternary_bufs, reshape_bufs,
    Finset.mem_insert, Finset.mem_singleton] at hb <;>
    (try rcases hb with rfl | hb) <;> (try rcases hb with rfl | hb) <;> (try rcases hb with rfl | hb) <;>
    (try rcases hb with rfl | hb) <;> (try subst hb) <;>
    first | exact .inl rfl | (refine .inr ?_; simp only [Line.ins, List.mem_cons]; first
      | exact .inl rfl | exact .inr (.inl rfl) | exact .inr (.inr (.inl rfl)) | exact .inr (.inr (.inr (.inl rfl))))

/-- No operation of these marks a buffer as fresh. -/
theorem Line.fresh_eq (l : Line sig Val) : (l.op : HloOp τ sig Val).fresh = ∅ := by
  cases l <;> rfl

/-- Every buffer that an operation of these touches is the TensorCore's. -/
theorem Line.bufs_sub (l : Line sig Val) : (l.op : HloOp τ sig Val).bufs ⊆ tcRefs τ sig := by
  cases l <;> simp [Line.op]

/-- What each kind of operation leaves at the buffer that it writes, in terms of what was held at those it reads. -/
theorem nul_at {Ty : BufTy} (y : TRef sig Ty) (v : Ty.Contents Val) (W : Valuation τ sig Val) :
    (Line.nul y v).op.result W (Proc.devRef .tc y.ref) = y.toBuf v := nullary_result _ _ y.dev _
@[inherit_doc nul_at]
theorem un_at {Tx Ty : BufTy} (x : TRef sig Tx) (y : TRef sig Ty) (f : Tx.Contents Val → Ty.Contents Val)
    (W : Valuation τ sig Val) :
    (Line.un x y f).op.result W (Proc.devRef .tc y.ref) = y.toBuf (f (val W x)) := unary_result _ _ (fun u => y.toBuf (f (x.ofBuf u))) x.dev y.dev _
@[inherit_doc nul_at]
theorem bin_at {Ta Tb Ty : BufTy} (a : TRef sig Ta) (b : TRef sig Tb) (y : TRef sig Ty)
    (f : Ta.Contents Val → Tb.Contents Val → Ty.Contents Val) (W : Valuation τ sig Val) :
    (Line.bin a b y f).op.result W (Proc.devRef .tc y.ref) = y.toBuf (f (val W a) (val W b)) :=
  binary_result _ _ _ (fun u v => y.toBuf (f (a.ofBuf u) (b.ofBuf v))) a.dev b.dev y.dev _
@[inherit_doc nul_at]
theorem tern_at {Tc Ta Tb Ty : BufTy} (c : TRef sig Tc) (a : TRef sig Ta) (b : TRef sig Tb) (y : TRef sig Ty)
    (f : Tc.Contents Val → Ta.Contents Val → Tb.Contents Val → Ty.Contents Val) (W : Valuation τ sig Val) :
    (Line.tern c a b y f).op.result W (Proc.devRef .tc y.ref) = y.toBuf (f (val W c) (val W a) (val W b)) :=
  ternary_result _ _ _ _ (fun u v w => y.toBuf (f (c.ofBuf u) (a.ofBuf v) (b.ofBuf w))) c.dev a.dev b.dev y.dev _
@[inherit_doc nul_at]
theorem quat_at {Ta Tb Tc Te Ty : BufTy} (a : TRef sig Ta) (b : TRef sig Tb) (c : TRef sig Tc) (e : TRef sig Te)
    (y : TRef sig Ty) (f : Ta.Contents Val → Tb.Contents Val → Tc.Contents Val → Te.Contents Val → Ty.Contents Val)
    (W : Valuation τ sig Val) :
    (Line.quat a b c e y f).op.result W (Proc.devRef .tc y.ref)
      = y.toBuf (f (val W a) (val W b) (val W c) (val W e)) :=
  quaternary_result _ _ _ _ _ (fun u v w z => y.toBuf (f (a.ofBuf u) (b.ofBuf v) (c.ofBuf w) (e.ofBuf z)))
    a.dev b.dev c.dev e.dev y.dev _
@[inherit_doc nul_at]
theorem resh_at {Tx Ty : BufTy} (x : TRef sig Tx) (y : TRef sig Ty) (he : Tx.elt = Ty.elt)
    (hn : Tx.shape.ShapeCasts Ty.shape) (W : Valuation τ sig Val) :
    (Line.resh x y he hn).op.result W (Proc.devRef .tc y.ref)
      = y.toBuf (fun i => he ▸ shapeCast Ty.shape (val W x) hn i) := by
  refine (reshape_result _ _ _ _ x.dev y.dev _).trans ?_
  unfold val
  obtain ⟨xr, rfl, _, _⟩ := x
  obtain ⟨yr, rfl, _, _⟩ := y
  rfl

/-- An operation leaves what is held at a buffer with a number other than its own. -/
theorem Line.val_result {T : BufTy} (l : Line sig Val) (x : TRef sig T) (h : num x ≠ l.out) (W : Valuation τ sig Val) :
    val (l.op.result W) x = val W x :=
  congrArg x.ofBuf (HloOp.result_of_not_mem _ _ fun hm => h (l.writes_num _ hm))

/-- Running an operation twice is running it once, for it does not read what it writes. -/
theorem Line.idem (l : Line sig Val) (h : ∀ k ∈ l.ins, k < l.out) (U : Valuation τ sig Val) :
    (l.op : HloOp τ sig Val).result (l.op.result U) = l.op.result U := by
  have keep {T : BufTy} (x : TRef sig T) (hx : num x ∈ l.ins) : val (l.op.result U) x = val U x :=
    l.val_result x (Nat.ne_of_lt (h _ hx)) U
  funext b
  by_cases hb : b ∈ (l.op : HloOp τ sig Val).writes
  · cases l with
    | nul y v => cases Finset.mem_singleton.mp hb; rw [nul_at, nul_at]
    | un x y f => cases Finset.mem_singleton.mp hb; rw [un_at, un_at, keep _ (by simp [Line.ins])]
    | bin a b y f =>
      cases Finset.mem_singleton.mp hb
      rw [bin_at, bin_at, keep _ (by simp [Line.ins]), keep _ (by simp [Line.ins])]
    | tern c a b y f =>
      cases Finset.mem_singleton.mp hb
      rw [tern_at, tern_at, keep _ (by simp [Line.ins]), keep _ (by simp [Line.ins]), keep _ (by simp [Line.ins])]
    | quat a b c e y f =>
      cases Finset.mem_singleton.mp hb
      rw [quat_at, quat_at, keep _ (by simp [Line.ins]), keep _ (by simp [Line.ins]), keep _ (by simp [Line.ins]),
        keep _ (by simp [Line.ins])]
    | resh x y he hn => cases Finset.mem_singleton.mp hb; rw [resh_at, resh_at, keep _ (by simp [Line.ins])]
  · rw [HloOp.result_of_not_mem _ _ hb]

/-- A memory that an operation leaves unchanged satisfies the operation's equation. -/
theorem Line.holds_of_fixed (l : Line sig Val) (W : Valuation τ sig Val)
    (h : (l.op : HloOp τ sig Val).result W = W) : l.Holds W := by
  have e := fun r : Ref sig .tc => congrFun h (Proc.devRef .tc r)
  cases l with
  | nul y v => exact (congrArg y.ofBuf ((e y.ref).symm.trans (nul_at y v W))).trans (TRef.ofBuf_toBuf _ _)
  | un x y f => exact (congrArg y.ofBuf ((e y.ref).symm.trans (un_at x y f W))).trans (TRef.ofBuf_toBuf _ _)
  | bin a b y f => exact (congrArg y.ofBuf ((e y.ref).symm.trans (bin_at a b y f W))).trans (TRef.ofBuf_toBuf _ _)
  | tern c a b y f => exact (congrArg y.ofBuf ((e y.ref).symm.trans (tern_at c a b y f W))).trans (TRef.ofBuf_toBuf _ _)
  | quat a b c d y f =>
    exact (congrArg y.ofBuf ((e y.ref).symm.trans (quat_at a b c d y f W))).trans (TRef.ofBuf_toBuf _ _)
  | resh x y he hn =>
    exact (congrArg y.ofBuf ((e y.ref).symm.trans (resh_at x y he hn W))).trans (TRef.ofBuf_toBuf _ _)

/-- A numbered line writes no buffer below its first number. -/
theorem after_below (b : DevRef τ sig) : ∀ (ls : List (Line sig Val)) (n : Nat) (V : Valuation τ sig Val),
    numbered n ls = true → dnum b < n → after (ls.map Line.op) V b = V b
  | [], _, _, _, _ => rfl
  | l :: ls, n, V, h, hb => by
    simp only [numbered, Bool.and_eq_true, beq_iff_eq] at h
    rw [List.map_cons, after_cons, after_below b ls (n + 1) _ h.2 (by omega)]
    refine HloOp.result_of_not_mem _ _ fun hm => ?_
    have := l.writes_num b hm
    omega

/-- THE FIXED POINT: after a numbered line, the equation of every operation of it holds. -/
theorem holds_after : ∀ (ls : List (Line sig Val)) (n : Nat) (V : Valuation τ sig Val),
    numbered n ls = true → Holds (after (ls.map Line.op) V) ls
  | [], _, _, _ => trivial
  | l :: ls, n, V, h => by
    have h' := h
    simp only [numbered, Bool.and_eq_true, beq_iff_eq, List.all_eq_true, decide_eq_true_eq] at h'
    obtain ⟨⟨ho, hi⟩, ht⟩ := h'
    refine ⟨l.holds_of_fixed _ ?_, holds_after ls (n + 1) _ ht⟩
    rw [List.map_cons, after_cons]
    have keep : ∀ b ∈ (l.op : HloOp τ sig Val).bufs,
        after (ls.map Line.op) (l.op.result V) b = (l.op : HloOp τ sig Val).result V b := fun b hb =>
      after_below b ls (n + 1) _ ht (by
        rcases l.bufs_num b hb with e | e
        · omega
        · have := hi _ e; omega)
    funext b
    by_cases hb : b ∈ (l.op : HloOp τ sig Val).bufs
    · rw [keep b hb, HloOp.result_congr _ keep b hb, l.idem (fun k hk => by have := hi k hk; omega)]
    · exact HloOp.result_of_not_mem _ _ fun hw => hb (HloOp.writes_sub _ hw)

end Cert.Line

end
-- ==== Proof.RefLines.lean ====
module

public import proofs.«01_k».proof.Proof.Gen.ReferenceIdeal
public import proofs.«01_k».proof.Proof.Line
public import Idealize.ShloMosaic.Lib.Pipeline.Frame

/-! The reference as numbered lines, function by function, and its run: at the end every line's equation holds
of the memory, and the arguments are as they were. -/

@[expose] public section

noncomputable section

namespace Cert.Ref

open Cert.ReferenceIdeal Cert.ReferenceIdeal.Gen Cert.Line Idealize.ShloMosaic Idealize.ShloMosaic.TcCoe Idealize.SL.Sem Idealize.ShloMosaic.StableHlo

variable {F : FTy → Type} [FloatOps F]

/-- Two planes of window indices laid side by side in a last dimension of two. -/
def pair5 (a b : (⟨S1023x1023x3x3x1, .i32⟩ : BufTy).Contents (Elt F)) : (⟨S1023x1023x3x3x2, .i32⟩ : BufTy).Contents (Elt F) :=
  concatenate S1023x1023x3x3x2 4 [⟨S1023x1023x3x3x1, a⟩, ⟨S1023x1023x3x3x1, b⟩]
    concatenates_S1023x1023x3x3x1_S1023x1023x3x3x1_S1023x1023x3x3x2_d4

/-- Two planes of pixel indices laid side by side in a last dimension of two. -/
def pair3 (a b : (⟨S2048x2048x1, .i32⟩ : BufTy).Contents (Elt F)) : (⟨S2048x2048x2, .i32⟩ : BufTy).Contents (Elt F) :=
  concatenate S2048x2048x2 2 [⟨S2048x2048x1, a⟩, ⟨S2048x2048x1, b⟩] concatenates_S2048x2048x1_S2048x2048x1_S2048x2048x2_d2

/-- The lines of `_windows`: the 3 by 3 windows at stride 2, flattened. -/
def windows_lines (arg0 : TRef sig ⟨S2048x2048, .f32⟩) (φ : fn_windows.Bufs) :
    List (Line sig (Elt F)) :=
    [.nul φ.v0 (iotaInDim S1023 32 0),
      .nul φ.c (constantI S_ 32 2#32),
      .un φ.c φ.v1 (broadcastInDim S1023 ![] bcast_S_S1023),
      .bin φ.v0 φ.v1 φ.v2 muli,
      .nul φ.v3 (iotaInDim S1023 32 0),
      .nul φ.c_0 (constantI S_ 32 2#32),
      .un φ.c_0 φ.v4 (broadcastInDim S1023 ![] bcast_S_S1023),
      .bin φ.v3 φ.v4 φ.v5 muli,
      .un φ.v2 φ.v6 (broadcastInDim S1023x1 ![0] bcast_S1023_S1023x1_0),
      .nul φ.v7 (iotaInDim S3 32 0),
      .un φ.v7 φ.v8 (broadcastInDim S1x3 ![1] bcast_S3_S1x3_1),
      .un φ.v6 φ.v9 (broadcastInDim S1023x3 ![0, 1] bcast_S1023x1_S1023x3_0_1),
      .un φ.v8 φ.v10 (broadcastInDim S1023x3 ![0, 1] bcast_S1x3_S1023x3_0_1),
      .bin φ.v9 φ.v10 φ.v11 addi,
      .un φ.v5 φ.v12 (broadcastInDim S1023x1 ![0] bcast_S1023_S1023x1_0),
      .nul φ.v13 (iotaInDim S3 32 0),
      .un φ.v13 φ.v14 (broadcastInDim S1x3 ![1] bcast_S3_S1x3_1),
      .un φ.v12 φ.v15 (broadcastInDim S1023x3 ![0, 1] bcast_S1023x1_S1023x3_0_1),
      .un φ.v14 φ.v16 (broadcastInDim S1023x3 ![0, 1] bcast_S1x3_S1023x3_0_1),
      .bin φ.v15 φ.v16 φ.v17 addi,
      .un φ.v11 φ.v18 (broadcastInDim S1023x1x3x1 ![0, 2] bcast_S1023x3_S1023x1x3x1_0_2),
      .un φ.v17 φ.v19 (broadcastInDim S1x1023x1x3 ![1, 3] bcast_S1023x3_S1x1023x1x3_1_3),
      .nul φ.c_1 (constantI S_ 32 0#32),
      .un φ.c_1 φ.v20 (broadcastInDim S1023x1x3x1 ![] bcast_S_S1023x1x3x1),
      .bin φ.v18 φ.v20 φ.v21 (cmpi .slt),
      .nul φ.c_2 (constantI S_ 32 2048#32),
      .un φ.c_2 φ.v22 (broadcastInDim S1023x1x3x1 ![] bcast_S_S1023x1x3x1),
      .bin φ.v18 φ.v22 φ.v23 addi,
      .tern φ.v21 φ.v23 φ.v18 φ.v24 select,
      .nul φ.c_3 (constantI S_ 32 0#32),
      .un φ.c_3 φ.v25 (broadcastInDim S1x1023x1x3 ![] bcast_S_S1x1023x1x3),
      .bin φ.v19 φ.v25 φ.v26 (cmpi .slt),
      .nul φ.c_4 (constantI S_ 32 2048#32),
      .un φ.c_4 φ.v27 (broadcastInDim S1x1023x1x3 ![] bcast_S_S1x1023x1x3),
      .bin φ.v19 φ.v27 φ.v28 addi,
      .tern φ.v26 φ.v28 φ.v19 φ.v29 select,
      .un φ.v24 φ.v30 (broadcastInDim S1023x1023x3x3 ![0, 1, 2, 3] bcast_S1023x1x3x1_S1023x1023x3x3_0_1_2_3),
      .un φ.v29 φ.v31 (broadcastInDim S1023x1023x3x3 ![0, 1, 2, 3] bcast_S1x1023x1x3_S1023x1023x3x3_0_1_2_3),
      .un φ.v30 φ.v32 (broadcastInDim S1023x1023x3x3x1 ![0, 1, 2, 3] bcast_S1023x1023x3x3_S1023x1023x3x3x1_0_1_2_3),
      .un φ.v31 φ.v33 (broadcastInDim S1023x1023x3x3x1 ![0, 1, 2, 3] bcast_S1023x1023x3x3_S1023x1023x3x3x1_0_1_2_3),
      .bin φ.v32 φ.v33 φ.v34 pair5,
      .bin arg0 φ.v34 φ.v35 (fun x i => Host.gather gather_S2048x2048_S1023x1023x3x3x2_S1023x1023x3x3_n_01_n_n_01_4_11 x i),
      .resh φ.v35 φ.v36 rfl shapeCasts_S1023x1023x3x3_S1023x1023x9]

set_option maxRecDepth 8192 in
set_option maxHeartbeats 4000000 in
@[inherit_doc windows_lines]
theorem windows_eq (arg0 : TRef sig ⟨S2048x2048, .f32⟩) (φ : fn_windows.Bufs) :
    fn_windows.body (F := F) arg0 φ = seq ((windows_lines arg0 φ).map Line.op) := rfl

/-- The lines of the position of the smallest of nine. -/
def argmin_lines (arg0 : TRef sig ⟨S1023x1023x9, .f32⟩) (φ : fn_argmin.Bufs) :
    List (Line sig (Elt F)) :=
    [.nul φ.v0 (iotaInDim S1023x1023x9 32 2),
      .nul φ.cst (constant S_ .f32 0x7F800000#32),
      .nul φ.c (constantI S_ 32 0#32),
      .quat arg0 φ.v0 φ.cst φ.c φ.v1_0 (fun x y u v j => (Host.argReduce reducer_argmin_f32_i32 x y u v reducesTo_S1023x1023x9_S1023x1023_d2 h_S_ j).1),
      .quat arg0 φ.v0 φ.cst φ.c φ.v1_1 (fun x y u v j => (Host.argReduce reducer_argmin_f32_i32 x y u v reducesTo_S1023x1023x9_S1023x1023_d2 h_S_ j).2)]

set_option maxRecDepth 8192 in
set_option maxHeartbeats 4000000 in
@[inherit_doc argmin_lines]
theorem argmin_eq (arg0 : TRef sig ⟨S1023x1023x9, .f32⟩) (φ : fn_argmin.Bufs) :
    fn_argmin.body (F := F) arg0 φ = seq ((argmin_lines arg0 φ).map Line.op) := rfl

/-- The lines of the position of the largest of nine. -/
def argmax_lines (arg0 : TRef sig ⟨S1023x1023x9, .f32⟩) (φ : fn_argmax.Bufs) :
    List (Line sig (Elt F)) :=
    [.nul φ.v0 (iotaInDim S1023x1023x9 32 2),
      .nul φ.cst (constant S_ .f32 0xFF800000#32),
      .nul φ.c (constantI S_ 32 0#32),
      .quat arg0 φ.v0 φ.cst φ.c φ.v1_0 (fun x y u v j => (Host.argReduce reducer_argmax_f32_i32 x y u v reducesTo_S1023x1023x9_S1023x1023_d2 h_S_ j).1),
      .quat arg0 φ.v0 φ.cst φ.c φ.v1_1 (fun x y u v j => (Host.argReduce reducer_argmax_f32_i32 x y u v reducesTo_S1023x1023x9_S1023x1023_d2 h_S_ j).2)]

set_option maxRecDepth 8192 in
set_option maxHeartbeats 4000000 in
@[inherit_doc argmax_lines]
theorem argmax_eq (arg0 : TRef sig ⟨S1023x1023x9, .f32⟩) (φ : fn_argmax.Bufs) :
    fn_argmax.body (F := F) arg0 φ = seq ((argmax_lines arg0 φ).map Line.op) := rfl

/-- The lines of the choice of one of nine by its position. -/
def take_along_axis_lines (arg0 : TRef sig ⟨S1023x1023x9, .f32⟩) (arg1 : TRef sig ⟨S1023x1023x1, .i32⟩) (φ : fn_take_along_axis.Bufs) :
    List (Line sig (Elt F)) :=
    [.nul φ.c (constantI S_ 32 0#32),
      .un φ.c φ.v0 (broadcastInDim S1023x1023x1 ![] bcast_S_S1023x1023x1),
      .bin arg1 φ.v0 φ.v1 (cmpi .slt),
      .nul φ.c_0 (constantI S_ 32 9#32),
      .un φ.c_0 φ.v2 (broadcastInDim S1023x1023x1 ![] bcast_S_S1023x1023x1),
      .bin arg1 φ.v2 φ.v3 addi,
      .tern φ.v1 φ.v3 arg1 φ.v4 select,
      .resh φ.v4 φ.v5 rfl shapeCasts_S1023x1023x1_S1023x1023x1x1,
      .nul φ.c_1 (constantI S1 32 8#32),
      .nul φ.c_2 (constantI S_ 32 0#32),
      .un φ.c_2 φ.v6 (broadcastInDim S1023x1023x1x1 ![] bcast_S_S1023x1023x1x1),
      .bin φ.v5 φ.v6 φ.v7 (cmpi .sge),
      .un φ.c_1 φ.v8 (broadcastInDim S1x1x1x1 ![3] bcast_S1_S1x1x1x1_3),
      .un φ.v8 φ.v9 (broadcastInDim S1023x1023x1x1 ![0, 1, 2, 3] bcast_S1x1x1x1_S1023x1023x1x1_0_1_2_3),
      .bin φ.v5 φ.v9 φ.v10 (cmpi .sle),
      .bin φ.v7 φ.v10 φ.v11 andi,
      .nul φ.c_3 (constantI S_ 1 1#1),
      .bin φ.v11 φ.c_3 φ.v12 (fun x v => Host.reduce IntOp.andi x v reducesTo_S1023x1023x1x1_S1023x1023x1_d3 h_S_),
      .bin arg0 φ.v5 φ.v13 (fun x i => Host.gather gather_S1023x1023x9_S1023x1023x1x1_S1023x1023x1_n_2_01_01_2_3_111 x i),
      .nul φ.cst (constant S_ .f32 0x7FC00000#32),
      .un φ.cst φ.v14 (broadcastInDim S1023x1023x1 ![] bcast_S_S1023x1023x1),
      .tern φ.v12 φ.v13 φ.v14 φ.v15 select]

set_option maxRecDepth 8192 in
set_option maxHeartbeats 4000000 in
@[inherit_doc take_along_axis_lines]
theorem take_along_axis_eq (arg0 : TRef sig ⟨S1023x1023x9, .f32⟩) (arg1 : TRef sig ⟨S1023x1023x1, .i32⟩) (φ : fn_take_along_axis.Bufs) :
    fn_take_along_axis.body (F := F) arg0 arg1 φ = seq ((take_along_axis_lines arg0 arg1 φ).map Line.op) := rfl

/-- The line of a choice between two rows of integers. -/
def where_lines (arg0 : TRef sig ⟨S2048, .i1⟩) (arg1 : TRef sig ⟨S2048, .i32⟩) (arg2 : TRef sig ⟨S2048, .i32⟩) (φ : fn_where.Bufs) :
    List (Line sig (Elt F)) :=
    [.tern arg0 arg1 arg2 φ.v0 select]

set_option maxRecDepth 8192 in
set_option maxHeartbeats 4000000 in
@[inherit_doc where_lines]
theorem where_eq (arg0 : TRef sig ⟨S2048, .i1⟩) (arg1 : TRef sig ⟨S2048, .i32⟩) (arg2 : TRef sig ⟨S2048, .i32⟩) (φ : fn_where.Bufs) :
    fn_where.body (F := F) arg0 arg1 arg2 φ = seq ((where_lines arg0 arg1 arg2 φ).map Line.op) := rfl

/-- The lines of a division of integers rounded down. -/
def floor_divide_lines (arg0 : TRef sig ⟨S2048, .i32⟩) (arg1 : TRef sig ⟨S_, .i32⟩) (φ : fn_floor_divide.Bufs) :
    List (Line sig (Elt F)) :=
    [.un arg1 φ.v0 id,
      .un φ.v0 φ.v1 (broadcastInDim S2048 ![] bcast_S_S2048),
      .bin arg0 φ.v1 φ.v2 Host.divsi,
      .un arg0 φ.v3 signi,
      .un φ.v0 φ.v4 signi,
      .un φ.v4 φ.v5 (broadcastInDim S2048 ![] bcast_S_S2048),
      .bin φ.v3 φ.v5 φ.v6 (cmpi .ne),
      .un φ.v0 φ.v7 (broadcastInDim S2048 ![] bcast_S_S2048),
      .bin arg0 φ.v7 φ.v8 Host.remsi,
      .nul φ.c (constantI S_ 32 0#32),
      .un φ.c φ.v9 (broadcastInDim S2048 ![] bcast_S_S2048),
      .bin φ.v8 φ.v9 φ.v10 (cmpi .ne),
      .bin φ.v6 φ.v10 φ.v11 andi,
      .nul φ.c_0 (constantI S_ 32 1#32),
      .un φ.c_0 φ.v12 (broadcastInDim S2048 ![] bcast_S_S2048),
      .bin φ.v2 φ.v12 φ.v13 subi] ++
    where_lines φ.v11 φ.v13 φ.v2 φ.call0

set_option maxRecDepth 8192 in
set_option maxHeartbeats 4000000 in
@[inherit_doc floor_divide_lines]
theorem floor_divide_eq (arg0 : TRef sig ⟨S2048, .i32⟩) (arg1 : TRef sig ⟨S_, .i32⟩) (φ : fn_floor_divide.Bufs) :
    fn_floor_divide.body (F := F) arg0 arg1 φ = seq ((floor_divide_lines arg0 arg1 φ).map Line.op) := by
  simp only [floor_divide_lines, List.map_append, seq_append, ← where_eq]
  rfl

/-- The line of a choice between two planes. -/
def where_0_lines (arg0 : TRef sig ⟨S2048x2048, .i1⟩) (arg1 : TRef sig ⟨S2048x2048, .f32⟩) (arg2 : TRef sig ⟨S2048x2048, .f32⟩) (φ : fn_where_0.Bufs) :
    List (Line sig (Elt F)) :=
    [.tern arg0 arg1 arg2 φ.v0 select]

set_option maxRecDepth 8192 in
set_option maxHeartbeats 4000000 in
@[inherit_doc where_0_lines]
theorem where_0_eq (arg0 : TRef sig ⟨S2048x2048, .i1⟩) (arg1 : TRef sig ⟨S2048x2048, .f32⟩) (arg2 : TRef sig ⟨S2048x2048, .f32⟩) (φ : fn_where_0.Bufs) :
    fn_where_0.body (F := F) arg0 arg1 arg2 φ = seq ((where_0_lines arg0 arg1 arg2 φ).map Line.op) := rfl

/-- The lines of `_fill`: each pixel takes its last window or keeps its own value. -/
def fill_lines (arg0 : TRef sig ⟨S1023x1023, .f32⟩) (arg1 : TRef sig ⟨S2048x2048, .f32⟩) (φ : fn_fill.Bufs) :
    List (Line sig (Elt F)) :=
    [.nul φ.v0 (iotaInDim S2048 32 0),
      .nul φ.v1 (iotaInDim S2048 32 0),
      .nul φ.c (constantI S_ 32 2#32)] ++
    floor_divide_lines φ.v0 φ.c φ.call0 ++
    [.nul φ.c_0 (constantI S_ 32 1022#32),
      .un φ.c_0 φ.v3 (broadcastInDim S2048 ![] bcast_S_S2048),
      .bin φ.call0.call0.v0 φ.v3 φ.v4 minsi,
      .nul φ.c_1 (constantI S_ 32 2#32)] ++
    floor_divide_lines φ.v1 φ.c_1 φ.call1 ++
    [.nul φ.c_2 (constantI S_ 32 1022#32),
      .un φ.c_2 φ.v6 (broadcastInDim S2048 ![] bcast_S_S2048),
      .bin φ.call1.call0.v0 φ.v6 φ.v7 minsi,
      .nul φ.c_3 (constantI S_ 32 2#32),
      .un φ.c_3 φ.v8 (broadcastInDim S2048 ![] bcast_S_S2048),
      .bin φ.v4 φ.v8 φ.v9 muli,
      .bin φ.v0 φ.v9 φ.v10 subi,
      .nul φ.c_4 (constantI S_ 32 2#32),
      .un φ.c_4 φ.v11 (broadcastInDim S2048 ![] bcast_S_S2048),
      .bin φ.v10 φ.v11 φ.v12 (cmpi .sle),
      .nul φ.c_5 (constantI S_ 32 2#32),
      .un φ.c_5 φ.v13 (broadcastInDim S2048 ![] bcast_S_S2048),
      .bin φ.v7 φ.v13 φ.v14 muli,
      .bin φ.v1 φ.v14 φ.v15 subi,
      .nul φ.c_6 (constantI S_ 32 2#32),
      .un φ.c_6 φ.v16 (broadcastInDim S2048 ![] bcast_S_S2048),
      .bin φ.v15 φ.v16 φ.v17 (cmpi .sle),
      .un φ.v12 φ.v18 (broadcastInDim S2048x1 ![0] bcast_S2048_S2048x1_0),
      .un φ.v17 φ.v19 (broadcastInDim S1x2048 ![1] bcast_S2048_S1x2048_1),
      .un φ.v18 φ.v20 (broadcastInDim S2048x2048 ![0, 1] bcast_S2048x1_S2048x2048_0_1),
      .un φ.v19 φ.v21 (broadcastInDim S2048x2048 ![0, 1] bcast_S1x2048_S2048x2048_0_1),
      .bin φ.v20 φ.v21 φ.v22 andi,
      .un φ.v4 φ.v23 (broadcastInDim S2048x1 ![0] bcast_S2048_S2048x1_0),
      .un φ.v7 φ.v24 (broadcastInDim S1x2048 ![1] bcast_S2048_S1x2048_1),
      .nul φ.c_7 (constantI S_ 32 0#32),
      .un φ.c_7 φ.v25 (broadcastInDim S2048x1 ![] bcast_S_S2048x1),
      .bin φ.v23 φ.v25 φ.v26 (cmpi .slt),
      .nul φ.c_8 (constantI S_ 32 1023#32),
      .un φ.c_8 φ.v27 (broadcastInDim S2048x1 ![] bcast_S_S2048x1),
      .bin φ.v23 φ.v27 φ.v28 addi,
      .tern φ.v26 φ.v28 φ.v23 φ.v29 select,
      .nul φ.c_9 (constantI S_ 32 0#32),
      .un φ.c_9 φ.v30 (broadcastInDim S1x2048 ![] bcast_S_S1x2048),
      .bin φ.v24 φ.v30 φ.v31 (cmpi .slt),
      .nul φ.c_10 (constantI S_ 32 1023#32),
      .un φ.c_10 φ.v32 (broadcastInDim S1x2048 ![] bcast_S_S1x2048),
      .bin φ.v24 φ.v32 φ.v33 addi,
      .tern φ.v31 φ.v33 φ.v24 φ.v34 select,
      .un φ.v29 φ.v35 (broadcastInDim S2048x2048 ![0, 1] bcast_S2048x1_S2048x2048_0_1),
      .un φ.v34 φ.v36 (broadcastInDim S2048x2048 ![0, 1] bcast_S1x2048_S2048x2048_0_1),
      .un φ.v35 φ.v37 (broadcastInDim S2048x2048x1 ![0, 1] bcast_S2048x2048_S2048x2048x1_0_1),
      .un φ.v36 φ.v38 (broadcastInDim S2048x2048x1 ![0, 1] bcast_S2048x2048_S2048x2048x1_0_1),
      .bin φ.v37 φ.v38 φ.v39 pair3,
      .bin arg0 φ.v39 φ.v40 (fun x i => Host.gather gather_S1023x1023_S2048x2048x2_S2048x2048_n_01_n_n_01_2_11 x i)] ++
    where_0_lines φ.v22 φ.v40 arg1 φ.call2

set_option maxRecDepth 8192 in
set_option maxHeartbeats 4000000 in
@[inherit_doc fill_lines]
theorem fill_eq (arg0 : TRef sig ⟨S1023x1023, .f32⟩) (arg1 : TRef sig ⟨S2048x2048, .f32⟩) (φ : fn_fill.Bufs) :
    fn_fill.body (F := F) arg0 arg1 φ = seq ((fill_lines arg0 arg1 φ).map Line.op) := by
  simp only [fill_lines, List.map_append, seq_append, ← floor_divide_eq, ← where_0_eq]
  rfl

/-- The lines of `_pool` for the smallest difference. -/
def pool_lines (arg0 : TRef sig ⟨S2048x2048, .f32⟩) (arg1 : TRef sig ⟨S2048x2048, .f32⟩) (φ : fn_pool.Bufs) :
    List (Line sig (Elt F)) :=
    windows_lines arg0 φ.call0 ++
    windows_lines arg1 φ.call1 ++
    [.bin φ.call0.v36 φ.call1.v36 φ.v2 subf,
      .un φ.v2 φ.v3 Host.absf] ++
    argmin_lines φ.v3 φ.call2 ++
    [.un φ.call2.v1_1 φ.v5 (broadcastInDim S1023x1023x1 ![0, 1] bcast_S1023x1023_S1023x1023x1_0_1)] ++
    take_along_axis_lines φ.call1.v36 φ.v5 φ.call3 ++
    [.resh φ.call3.v15 φ.v7 rfl shapeCasts_S1023x1023x1_S1023x1023] ++
    fill_lines φ.v7 arg1 φ.call4

set_option maxRecDepth 8192 in
set_option maxHeartbeats 4000000 in
@[inherit_doc pool_lines]
theorem pool_eq (arg0 : TRef sig ⟨S2048x2048, .f32⟩) (arg1 : TRef sig ⟨S2048x2048, .f32⟩) (φ : fn_pool.Bufs) :
    fn_pool.body (F := F) arg0 arg1 φ = seq ((pool_lines arg0 arg1 φ).map Line.op) := by
  simp only [pool_lines, List.map_append, seq_append, ← windows_eq, ← argmin_eq, ← take_along_axis_eq, ← fill_eq]
  rfl

/-- The lines of `_pool` for the largest difference. -/
def pool_1_lines (arg0 : TRef sig ⟨S2048x2048, .f32⟩) (arg1 : TRef sig ⟨S2048x2048, .f32⟩) (φ : fn_pool_1.Bufs) :
    List (Line sig (Elt F)) :=
    windows_lines arg0 φ.call0 ++
    windows_lines arg1 φ.call1 ++
    [.bin φ.call0.v36 φ.call1.v36 φ.v2 subf,
      .un φ.v2 φ.v3 Host.absf] ++
    argmax_lines φ.v3 φ.call2 ++
    [.un φ.call2.v1_1 φ.v5 (broadcastInDim S1023x1023x1 ![0, 1] bcast_S1023x1023_S1023x1023x1_0_1)] ++
    take_along_axis_lines φ.call1.v36 φ.v5 φ.call3 ++
    [.resh φ.call3.v15 φ.v7 rfl shapeCasts_S1023x1023x1_S1023x1023] ++
    fill_lines φ.v7 arg1 φ.call4

set_option maxRecDepth 8192 in
set_option maxHeartbeats 4000000 in
@[inherit_doc pool_1_lines]
theorem pool_1_eq (arg0 : TRef sig ⟨S2048x2048, .f32⟩) (arg1 : TRef sig ⟨S2048x2048, .f32⟩) (φ : fn_pool_1.Bufs) :
    fn_pool_1.body (F := F) arg0 arg1 φ = seq ((pool_1_lines arg0 arg1 φ).map Line.op) := by
  simp only [pool_1_lines, List.map_append, seq_append, ← windows_eq, ← argmax_eq, ← take_along_axis_eq, ← fill_eq]
  rfl

/-- The lines of the whole reference. -/
def main_lines : List (Line sig (Elt F)) :=
    pool_lines (.of main_arg0) (.of main_arg1) main_call0 ++
    pool_1_lines (.of main_arg0) (.of main_arg1) main_call1 ++
    [.bin (.of main_v0 : TRef sig ⟨S2048x2048, .f32⟩) (.of main_v1 : TRef sig ⟨S2048x2048, .f32⟩)
      (.of main_v2 : TRef sig ⟨S2048x2048, .f32⟩) addf] ++
    pool_lines (.of main_arg0) (.of main_arg2) main_call2 ++
    pool_1_lines (.of main_arg0) (.of main_arg2) main_call3 ++
    [.bin (.of main_v3 : TRef sig ⟨S2048x2048, .f32⟩) (.of main_v4 : TRef sig ⟨S2048x2048, .f32⟩)
      (.of main_v5 : TRef sig ⟨S2048x2048, .f32⟩) addf]

set_option maxRecDepth 8192 in
set_option maxHeartbeats 4000000 in
@[inherit_doc main_lines]
theorem main_eq (c : Dev nD) : main (F := F) c = seq (main_lines.map Line.op) := by
  simp only [main_lines, List.map_append, seq_append, ← pool_eq, ← pool_1_eq, bind_assoc]
  rfl

end Cert.Ref

end
-- ==== Proof.Gather.lean ====
module

public import proofs.«01_k».proof.Proof.RefLines
public import Idealize.ShloMosaic.Lib.Pointwise

/-! The reference's three gathers, each read at one index of its result. -/

@[expose] public section

namespace Cert.Ref

open Cert.ReferenceIdeal Cert.ReferenceIdeal.Gen Idealize.ShloMosaic

variable {α : Type}

/-- The gather of windows: at window `(i, j)` and place `(a, b)` in it, the operand at the row and the column that the
    two index words there name, each read signed and clamped into the plane. -/
theorem gather_window (x : S2048x2048.Idx → α) (idx : IVec S1023x1023x3x3x2 32) (i j : Fin 1023) (a b : Fin 3) :
    Host.gather gather_S2048x2048_S1023x1023x3x3x2_S1023x1023x3x3_n_01_n_n_01_4_11 x idx (ix4 i j a b)
      = x (ix2 ⟨min (idx (ix5 i j a b 0)).toInt.toNat 2047, by omega⟩
          ⟨min (idx (ix5 i j a b 1)).toInt.toNat 2047, by omega⟩) := by
  unfold Host.gather
  congr 1
  funext c
  refine Fin.ext ?_
  generalize hD : gather_S2048x2048_S1023x1023x3x3x2_S1023x1023x3x3_n_01_n_n_01_4_11 = D
  have hb : D.batchCoord (ix4 i j a b) c = 0 :=
    GatherDims.batchCoord_eq_zero _ _ _ (by subst hD; exact List.not_mem_nil)
  have ho : D.offCoord (ix4 i j a b) c = 0 :=
    GatherDims.offCoord_eq_zero _ _ _ fun h => ((GatherDims.mem_sKept _ _).mp h).1 (by subst hD; fin_cases c <;> decide)
  show D.start (ix4 i j a b) idx c + D.batchCoord (ix4 i j a b) c + D.offCoord (ix4 i j a b) c = _
  rw [hb, ho, Nat.add_zero]
  subst hD
  unfold GatherDims.start
  have h2 : c = 0 ∨ c = 1 := by
    match c with
    | ⟨0, _⟩ => exact .inl rfl
    | ⟨1, _⟩ => exact .inr rfl
  rcases h2 with rfl | rfl
  · rw [dif_pos (by decide)]
    refine congrArg (fun w => min (BitVec.toInt w).toNat 2047) (congrArg idx (funext fun d => Fin.ext ?_))
    match d with
    | ⟨0, _⟩ => rfl
    | ⟨1, _⟩ => rfl
    | ⟨2, _⟩ => rfl
    | ⟨3, _⟩ => rfl
    | ⟨4, _⟩ => rfl
  · rw [dif_pos (by decide)]
    refine congrArg (fun w => min (BitVec.toInt w).toNat 2047) (congrArg idx (funext fun d => Fin.ext ?_))
    match d with
    | ⟨0, _⟩ => rfl
    | ⟨1, _⟩ => rfl
    | ⟨2, _⟩ => rfl
    | ⟨3, _⟩ => rfl
    | ⟨4, _⟩ => rfl

/-- The gather of pixels: at pixel `(r, c)`, the operand at the row and the column that the two index words there
    name, each read signed and clamped into the plane. -/
theorem gather_pixel (x : S1023x1023.Idx → α) (idx : IVec S2048x2048x2 32) (r c : Fin 2048) :
    Host.gather gather_S1023x1023_S2048x2048x2_S2048x2048_n_01_n_n_01_2_11 x idx (ix2 r c)
      = x (ix2 ⟨min (idx (ix3 r c 0)).toInt.toNat 1022, by omega⟩
          ⟨min (idx (ix3 r c 1)).toInt.toNat 1022, by omega⟩) := by
  unfold Host.gather
  congr 1
  funext e
  refine Fin.ext ?_
  generalize hD : gather_S1023x1023_S2048x2048x2_S2048x2048_n_01_n_n_01_2_11 = D
  have hb : D.batchCoord (ix2 r c) e = 0 :=
    GatherDims.batchCoord_eq_zero _ _ _ (by subst hD; exact List.not_mem_nil)
  have ho : D.offCoord (ix2 r c) e = 0 :=
    GatherDims.offCoord_eq_zero _ _ _ fun h => ((GatherDims.mem_sKept _ _).mp h).1 (by subst hD; fin_cases e <;> decide)
  show D.start (ix2 r c) idx e + D.batchCoord (ix2 r c) e + D.offCoord (ix2 r c) e = _
  rw [hb, ho, Nat.add_zero]
  subst hD
  unfold GatherDims.start
  have h2 : e = 0 ∨ e = 1 := by
    match e with
    | ⟨0, _⟩ => exact .inl rfl
    | ⟨1, _⟩ => exact .inr rfl
  rcases h2 with rfl | rfl
  · rw [dif_pos (by decide)]
    refine congrArg (fun w => min (BitVec.toInt w).toNat 1022) (congrArg idx (funext fun d => Fin.ext ?_))
    match d with
    | ⟨0, _⟩ => rfl
    | ⟨1, _⟩ => rfl
    | ⟨2, _⟩ => rfl
  · rw [dif_pos (by decide)]
    refine congrArg (fun w => min (BitVec.toInt w).toNat 1022) (congrArg idx (funext fun d => Fin.ext ?_))
    match d with
    | ⟨0, _⟩ => rfl
    | ⟨1, _⟩ => rfl
    | ⟨2, _⟩ => rfl

/-- The gather of one of nine: at window `(i, j)`, the operand's entry of that window at the place its index word
    names, read signed and clamped to the nine. -/
theorem gather_nine (x : S1023x1023x9.Idx → α) (idx : IVec S1023x1023x1x1 32) (i j : Fin 1023) :
    Host.gather gather_S1023x1023x9_S1023x1023x1x1_S1023x1023x1_n_2_01_01_2_3_111 x idx (ix3 i j 0)
      = x (ix3 i j ⟨min (idx (ix4 i j 0 0)).toInt.toNat 8, by omega⟩) := by
  unfold Host.gather
  congr 1
  funext e
  refine Fin.ext ?_
  generalize hD : gather_S1023x1023x9_S1023x1023x1x1_S1023x1023x1_n_2_01_01_2_3_111 = D
  have ho : D.offCoord (ix3 i j 0) e = 0 :=
    GatherDims.offCoord_eq_zero _ _ _ fun h => by
      have := (GatherDims.mem_sKept _ _).mp h
      subst hD; revert this; fin_cases e <;> decide
  show D.start (ix3 i j 0) idx e + D.batchCoord (ix3 i j 0) e + D.offCoord (ix3 i j 0) e = _
  rw [ho, Nat.add_zero]
  have h3 : e = 0 ∨ e = 1 ∨ e = 2 := by
    match e with
    | ⟨0, _⟩ => exact .inl rfl
    | ⟨1, _⟩ => exact .inr (.inl rfl)
    | ⟨2, _⟩ => exact .inr (.inr rfl)
  rcases h3 with rfl | rfl | rfl
  · rw [GatherDims.start_batching _ _ _ _ (by subst hD; decide), Nat.zero_add]
    subst hD; unfold GatherDims.batchCoord; rw [dif_pos (by decide)]; rfl
  · rw [GatherDims.start_batching _ _ _ _ (by subst hD; decide), Nat.zero_add]
    subst hD; unfold GatherDims.batchCoord; rw [dif_pos (by decide)]; rfl
  · rw [GatherDims.batchCoord_eq_zero _ _ _ (by subst hD; decide), Nat.add_zero]
    subst hD
    unfold GatherDims.start
    rw [dif_pos (by decide)]
    refine congrArg (fun w => min (BitVec.toInt w).toNat 8) (congrArg idx (funext fun d => Fin.ext ?_))
    match d with
    | ⟨0, _⟩ => rfl
    | ⟨1, _⟩ => rfl
    | ⟨2, _⟩ => rfl
    | ⟨3, _⟩ => rfl

end Cert.Ref

end
-- ==== Proof.RefRun.lean ====
module

public import proofs.«01_k».proof.Proof.RefLines
public import Idealize.ShloMosaic.Lib.Quiescent
public import Idealize.ShloMosaic.PureOps.Ideal

/-! The run of the reference: at the end the equation of every line holds of the memory, and the arguments are as
they were. -/

@[expose] public section

noncomputable section

namespace Cert.Ref

open Cert.ReferenceIdeal Cert.ReferenceIdeal.Gen Cert.Line Idealize.ShloMosaic Idealize.ShloMosaic.TcCoe Idealize.SL.Sem Idealize.ShloMosaic.StableHlo

/-- The reference has no scoped buffer. -/
theorem no_scopedRefs : (Finset.univ.filter fun b : Ref sig .tc => b.isScoped) = ∅ := by decide

/-- The reference has no scoped semaphore. -/
theorem no_scopedSems : (Finset.univ.filter fun sm : SemLoc sig => sm.isScoped .tc) = ∅ := by decide

/-- The lines write the buffers from the third on, in order, each reading earlier ones only. -/
theorem main_numbered : numbered 3 (main_lines : List (Line sig (Elt Ideal))) = true := by
  decide +kernel

/-- What the memory of device `c` holds at the end of the reference, by the lines. -/
def final (m : (ℓ : Loc nD τ sig) → Buf (Elt Ideal) ℓ) (c : Dev nD) : Valuation τ sig (Elt Ideal) :=
  after ((main_lines : List (Line sig (Elt Ideal))).map Line.op) (launchContents m c)

/-- At the end every line's equation holds. -/
theorem final_holds (m : (ℓ : Loc nD τ sig) → Buf (Elt Ideal) ℓ) (c : Dev nD) : Holds (final m c) main_lines :=
  holds_after _ _ _ main_numbered

/-- A buffer numbered below three, an argument, holds at the end what it held at the start. -/
theorem final_arg (m : (ℓ : Loc nD τ sig) → Buf (Elt Ideal) ℓ) (c : Dev nD) (b : Ref sig .tc) (h : b.idx.val < 3) :
    final m c (Proc.devRef .tc b) = m ((c.tc : Thread nD τ).loc b) :=
  after_below _ _ 3 _ main_numbered h

/-- Every execution of the reference ends with each buffer as the lines say. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = final m c (Proc.devRef .tc b) :=
  run_seq no_scopedRefs no_scopedSems defs main (fun _ => main_lines.map Line.op) main_eq
    (fun _ => List.forall_iff_forall_mem.mpr fun op h => by
      obtain ⟨l, _, rfl⟩ := List.mem_map.mp h
      exact l.bufs_sub) m ρ
    fun _ op h => by
      obtain ⟨l, _, rfl⟩ := List.mem_map.mp h
      exact l.fresh_eq

/-- The reference leaves its arguments unchanged and every semaphore counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨(h c main_arg0).trans (final_arg m c _ (by decide)),
    (h c main_arg1).trans (final_arg m c _ (by decide)), (h c main_arg2).trans (final_arg m c _ (by decide))⟩,
    sem_eq_zero_of_no_sems rfl r.2⟩) (run m ρ)

end Cert.Ref

end
-- ==== Proof.RefVal.lean ====
module

public import proofs.«01_k».proof.Proof.Gather
public import proofs.«01_k».proof.Proof.RefRun
public import proofs.«01_k».proof.Proof.Spec
public import Idealize.ShloMosaic.Lib.Pointwise
public import Idealize.ShloMosaic.Lib.Routing.OpsPair

/-! What the reference's lines hold, read at one index. -/

@[expose] public section

noncomputable section

namespace Cert.Ref

open Cert.ReferenceIdeal Cert.ReferenceIdeal.Gen Cert.Line Cert.Spec Idealize.ShloMosaic Idealize.ShloMosaic.StableHlo

/-- A word below half the range, put through the wrap of negative indices, is itself; its signed reading is itself. -/
theorem wrap_ofNat (n : Nat) (h : n < 2 ^ 31) (x : BitVec 32) :
    Scalar.select (IntOp.cmpi .slt (BitVec.ofNat 32 n) 0#32) x (BitVec.ofNat 32 n) = BitVec.ofNat 32 n :=
  Routing.wrap_of_lt _ _ (by rw [BitVec.toNat_ofNat]; omega)

/-- The signed reading of a small word. -/
theorem toInt_toNat (n : Nat) (h : n < 2 ^ 31) : (BitVec.ofNat 32 n).toInt.toNat = n := by
  rw [BitVec.toInt_eq_toNat_of_lt (by rw [BitVec.toNat_ofNat]; omega), BitVec.toNat_ofNat, Int.toNat_natCast]
  omega

/-- The word of `2 n + p`, as the reference computes it. -/
theorem word_twice_add (n p : Nat) :
    IntOp.addi (IntOp.muli (BitVec.ofNat 32 n) 2#32) (BitVec.ofNat 32 p) = BitVec.ofNat 32 (2 * n + p) := by
  show BitVec.ofNat 32 n * 2#32 + BitVec.ofNat 32 p = _
  rw [BitVec.ofNat_add, BitVec.ofNat_mul, BitVec.mul_comm]

/-- The first of two index planes laid side by side. -/
theorem pair5_0 (a b : (⟨S1023x1023x3x3x1, .i32⟩ : BufTy).Contents (Elt Ideal)) (i j : Fin 1023) (p q : Fin 3) :
    pair5 a b (ix5 i j p q 0) = a (ix5 i j p q 0) := by
  unfold pair5; pointwise
/-- The second of two index planes laid side by side. -/
theorem pair5_1 (a b : (⟨S1023x1023x3x3x1, .i32⟩ : BufTy).Contents (Elt Ideal)) (i j : Fin 1023) (p q : Fin 3) :
    pair5 a b (ix5 i j p q 1) = b (ix5 i j p q 0) := by
  unfold pair5; pointwise
/-- The first of two index planes laid side by side. -/
theorem pair3_0 (a b : (⟨S2048x2048x1, .i32⟩ : BufTy).Contents (Elt Ideal)) (r c : Fin 2048) :
    pair3 a b (ix3 r c 0) = a (ix3 r c 0) := by
  unfold pair3; pointwise
/-- The second of two index planes laid side by side. -/
theorem pair3_1 (a b : (⟨S2048x2048x1, .i32⟩ : BufTy).Contents (Elt Ideal)) (r c : Fin 2048) :
    pair3 a b (ix3 r c 1) = b (ix3 r c 0) := by
  unfold pair3; pointwise

/-- Entry `k` of window `(i, j)` is the plane's pixel in row `2 i + k / 3` and column `2 j + k % 3`. -/
theorem windows_val (W : Valuation τ sig (Elt Ideal)) (a : TRef sig ⟨S2048x2048, .f32⟩) (φ : fn_windows.Bufs)
    (h : Line.Holds W (windows_lines a φ)) (i j : Fin 1023) (k : Fin 9) :
    val W φ.v36 (ix3 i j k)
      = val W a (ix2 ⟨2 * i.val + k.val / 3, by omega⟩ ⟨2 * j.val + k.val % 3, by omega⟩) := by
  simp only [windows_lines, Line.Holds, Line.Line.Holds] at h
  obtain ⟨h0, hc, h1, h2, h3, hc0, h4, h5, h6, h7, h8, h9, h10, h11, h12, h13, h14, h15, h16, h17, h18, h19, hc1, h20,
    h21, hc2, h22, h23, h24, hc3, h25, h26, hc4, h27, h28, h29, h30, h31, h32, h33, h34, h35, h36, -⟩ := h
  have row (p q : Fin 3) : val W φ.v32 (ix5 i j p q 0) = BitVec.ofNat 32 (2 * i.val + p.val) := by
    rw [h32, h30, h24, h21, h23, h20, h22, hc1, hc2, h18, h11, h9, h10, h8, h7, h6, h2, h1, h0, hc]
    pointwise
    rw [word_twice_add, wrap_ofNat _ (by omega)]
  have col (p q : Fin 3) : val W φ.v33 (ix5 i j p q 0) = BitVec.ofNat 32 (2 * j.val + q.val) := by
    rw [h33, h31, h29, h26, h28, h25, h27, hc3, hc4, h19, h17, h15, h16, h14, h13, h12, h5, h4, h3, hc0]
    pointwise
    rw [word_twice_add, wrap_ofNat _ (by omega)]
  have read (p q : Fin 3) : val W φ.v35 (ix4 i j p q)
      = val W a (ix2 ⟨2 * i.val + p.val, by omega⟩ ⟨2 * j.val + q.val, by omega⟩) := by
    rw [h35, gather_window, h34]
    congr 1
    refine congrArg₂ ix2 (Fin.ext ?_) (Fin.ext ?_)
    · show min (BitVec.toInt (pair5 _ _ _)).toNat 2047 = _
      rw [pair5_0, row, toInt_toNat _ (by omega)]; show min _ _ = (_ : Nat); dsimp only; omega
    · show min (BitVec.toInt (pair5 _ _ _)).toNat 2047 = _
      rw [pair5_1, col, toInt_toNat _ (by omega)]; show min _ _ = (_ : Nat); dsimp only; omega
  have e : val W φ.v36 (ix3 i j k) = val W φ.v35 (ix4 i j ⟨k.val / 3, by omega⟩ ⟨k.val % 3, by omega⟩) := by
    rw [h36]
    generalize val W φ.v35 = v
    pointwise
  rw [e, read]

end Cert.Ref

end
-- ==== Proof.RefPick.lean ====
module

public import proofs.«01_k».proof.Proof.RefVal
public import Idealize.ShloMosaic.PureOps.Ideal.Laws

/-! The reference's choice of one of nine: the position of the best, and the entry at that position. -/

@[expose] public section

noncomputable section

namespace Cert.Ref

open Cert.ReferenceIdeal Cert.ReferenceIdeal.Gen Cert.Line Cert.Spec Idealize.ShloMosaic Idealize.ShloMosaic.StableHlo

/-- Two increasing lists with the same members are equal. -/
theorem eq_of_increasing {n : Nat} {l₁ l₂ : List (Fin n)} (h₁ : l₁.Pairwise (· < ·)) (h₂ : l₂.Pairwise (· < ·))
    (h : ∀ a, a ∈ l₁ ↔ a ∈ l₂) : l₁ = l₂ :=
  List.Perm.eq_of_pairwise' (r := (· < ·)) h₁ h₂
    ((List.perm_ext_iff_of_nodup (h₁.imp fun h => ne_of_lt h) (h₂.imp fun h => ne_of_lt h)).mpr h)

/-- The nine pairs that the reduction of window `(i, j)` folds over, in order. -/
theorem fiber_eq {α β : Type} (x : S1023x1023x9.Idx → α) (y : S1023x1023x9.Idx → β) (i j : Fin 1023) :
    Host.argReduceFiber x y reducesTo_S1023x1023x9_S1023x1023_d2 (ix2 i j)
      = (List.finRange 9).map fun k => (x (ix3 i j k), y (ix3 i j k)) := by
  have drop (v : S1023x1023x9.Idx) :
      reducesTo_S1023x1023x9_S1023x1023_d2.drop v = ix2 i j ↔ v = ix3 i j (v 2) := by
    have e0 : (reducesTo_S1023x1023x9_S1023x1023_d2.drop v 0).val = (v 0).val := rfl
    have e1 : (reducesTo_S1023x1023x9_S1023x1023_d2.drop v 1).val = (v 1).val := rfl
    constructor
    · intro hv
      funext a
      refine Fin.ext ?_
      match a with
      | ⟨0, _⟩ => exact e0.symm.trans (by rw [hv]; rfl)
      | ⟨1, _⟩ => exact e1.symm.trans (by rw [hv]; rfl)
      | ⟨2, _⟩ => rfl
    · intro hv
      funext a
      refine Fin.ext ?_
      match a with
      | ⟨0, _⟩ => exact e0.trans (by rw [hv]; rfl)
      | ⟨1, _⟩ => exact e1.trans (by rw [hv]; rfl)
  have key : (List.finRange S1023x1023x9.numel).filter
        (fun n => decide (reducesTo_S1023x1023x9_S1023x1023_d2.drop (S1023x1023x9.rowMajor.symm n) = ix2 i j))
      = (List.finRange 9).map fun k => S1023x1023x9.rowMajor (ix3 i j k) := by
    apply eq_of_increasing ((List.pairwise_lt_finRange _).filter _)
    · rw [List.pairwise_map]
      refine (List.pairwise_lt_finRange _).imp fun {k k'} hk => ?_
      show (_ : Fin _).val < (_ : Fin _).val
      rw [Shape.rowMajor_val_three, Shape.rowMajor_val_three]
      have : k.val < k'.val := hk
      show (i.val * 1023 + j.val) * 9 + k.val < (i.val * 1023 + j.val) * 9 + k'.val
      omega
    · intro n
      simp only [List.mem_filter, List.mem_finRange, true_and, decide_eq_true_eq, List.mem_map, drop]
      constructor
      · intro hn
        exact ⟨S1023x1023x9.rowMajor.symm n 2, ((Equiv.symm_apply_eq _).mp hn).symm⟩
      · rintro ⟨k, rfl⟩
        rw [Equiv.symm_apply_apply]; rfl
  unfold Host.argReduceFiber
  rw [key, List.map_map]
  refine List.map_congr_left fun k _ => ?_
  simp only [Function.comp, Equiv.symm_apply_apply]

/-- A fold that starts at a pair of the position 0 and keeps, at each later position, the pair that is best by `r` and
    the earlier at a draw, ends at the position of the pick. -/
theorem fold_pick (r : EReal → EReal → Prop) [DecidableRel r] (f : EReal × BitVec 32 → EReal × BitVec 32 → EReal × BitVec 32)
    (d : Nat → EReal) (z : EReal) (h0 : f (z, 0#32) (d 0, BitVec.ofNat 32 0) = (d 0, BitVec.ofNat 32 0))
    (hf : ∀ (a : EReal) (m k : Nat), m < k → k < 9 →
      f (a, BitVec.ofNat 32 m) (d k, BitVec.ofNat 32 k) = if r (d k) a then (d k, BitVec.ofNat 32 k) else (a, BitVec.ofNat 32 m)) :
    ∀ n < 9, ∃ m ≤ n, ((List.range (n + 1)).map fun k => (d k, BitVec.ofNat 32 k)).foldl f (z, 0#32)
      = (d m, BitVec.ofNat 32 m) ∧ ∀ c : Nat → EReal, pick r d c n = (d m, c m)
  | 0, _ => ⟨0, le_rfl, by simpa using h0, fun c => rfl⟩
  | n + 1, hn => by
    obtain ⟨m, hm, he, hp⟩ := fold_pick r f d z h0 hf n (by omega)
    rw [List.range_succ, List.map_append, List.foldl_append, he]
    simp only [List.map_cons, List.map_nil, List.foldl_cons, List.foldl_nil]
    rw [hf _ m (n + 1) (by omega) hn]
    by_cases h : r (d (n + 1)) (d m)
    · exact ⟨n + 1, le_rfl, if_pos h, fun c => by rw [pick, hp c, if_pos h]⟩
    · exact ⟨m, by omega, if_neg h, fun c => by rw [pick, hp c, if_neg h]⟩

/-- The fold over a window's nine pairs, as a fold over the numbers below nine. -/
theorem fiber_range (x : S1023x1023x9.Idx → EReal) (d : Nat → EReal) (i j : Fin 1023)
    (hd : ∀ k : Fin 9, x (ix3 i j k) = d k.val) :
    Host.argReduceFiber x (iotaInDim S1023x1023x9 32 2) reducesTo_S1023x1023x9_S1023x1023_d2 (ix2 i j)
      = (List.range 9).map fun k => (d k, BitVec.ofNat 32 k) := by
  rw [fiber_eq, ← List.map_coe_finRange_eq_range, List.map_map]
  exact List.map_congr_left fun k _ => Prod.ext (hd k) rfl

/-- The smaller of two window positions is the smaller of their words. -/
theorem slt_of_lt {m k : Nat} (h : m < k) (hk : k < 9) :
    IntOp.cmpi .slt (BitVec.ofNat 32 m) (BitVec.ofNat 32 k) = 1#1 := by
  have : ∀ m k : Fin 9, m.val < k.val → IntOp.cmpi .slt (BitVec.ofNat 32 m.val) (BitVec.ofNat 32 k.val) = 1#1 := by decide
  exact this ⟨m, by omega⟩ ⟨k, hk⟩ h

/-- One step of the smallest's fold keeps the smaller, and the earlier at a draw. -/
theorem argmin_step (a b : EReal) (m k : Nat) (h : m < k) (hk : k < 9) :
    reducer_argmin_f32_i32 (F := Ideal) (a, BitVec.ofNat 32 m) (b, BitVec.ofNat 32 k)
      = if b < a then (b, BitVec.ofNat 32 k) else (a, BitVec.ofNat 32 m) := by
  unfold reducer_argmin_f32_i32
  simp only [slt_of_lt h hk, Ideal.cmpf_def, Ideal.cmp]
  rcases lt_trichotomy a b with hab | hab | hab
  · simp [hab, hab.ne, hab.not_gt, IntOp.ori, IntOp.andi, Scalar.select]
  · subst hab; simp [IntOp.ori, IntOp.andi, Scalar.select]
  · simp [hab, hab.ne', hab.not_gt, IntOp.ori, IntOp.andi, Scalar.select]

/-- One step of the largest's fold keeps the larger, and the earlier at a draw. -/
theorem argmax_step (a b : EReal) (m k : Nat) (h : m < k) (hk : k < 9) :
    reducer_argmax_f32_i32 (F := Ideal) (a, BitVec.ofNat 32 m) (b, BitVec.ofNat 32 k)
      = if b > a then (b, BitVec.ofNat 32 k) else (a, BitVec.ofNat 32 m) := by
  unfold reducer_argmax_f32_i32
  simp only [slt_of_lt h hk, Ideal.cmpf_def, Ideal.cmp]
  rcases lt_trichotomy a b with hab | hab | hab
  · simp [hab, hab.ne, hab.not_gt, IntOp.ori, IntOp.andi, Scalar.select]
  · subst hab; simp [IntOp.ori, IntOp.andi, Scalar.select]
  · simp [hab, hab.ne', hab.not_gt, IntOp.ori, IntOp.andi, Scalar.select]

/-- The position of the smallest of a window's nine is that of the pick by `<`. -/
theorem argmin_val (W : Valuation τ sig (Elt Ideal)) (a : TRef sig ⟨S1023x1023x9, .f32⟩) (φ : fn_argmin.Bufs)
    (h : Line.Holds W (argmin_lines a φ)) (i j : Fin 1023) (d : Nat → EReal)
    (hd : ∀ k : Fin 9, val W a (ix3 i j k) = d k.val) :
    ∃ m ≤ 8, val W φ.v1_1 (ix2 i j) = BitVec.ofNat 32 m ∧ ∀ c : Nat → EReal, pick (· < ·) d c 8 = (d m, c m) := by
  simp only [argmin_lines, Line.Holds, Line.Line.Holds] at h
  obtain ⟨h0, hcst, hc, -, h1, -⟩ := h
  obtain ⟨m, hm, he, hp⟩ := fold_pick (· < ·) (reducer_argmin_f32_i32 (F := Ideal)) d (Ideal.ofBits .f32 0x7F800000#32)
    (by
      have : Ideal.ofBits .f32 0x7F800000#32 = ⊤ := by decide
      rw [this]
      simp [reducer_argmin_f32_i32, Ideal.cmpf_def, Ideal.cmp, IntOp.ori, IntOp.andi, Scalar.select])
    (fun b m k hm hk => argmin_step b (d k) m k hm hk) 8 (by decide)
  refine ⟨m, hm, ?_, hp⟩
  rw [h1]; dsimp only
  rw [Ideal.argReduce_eq_reduce2, Host.reduce2_eq_foldl_fiber, h0, fiber_range _ d i j hd, hcst, hc]
  exact congrArg Prod.snd he

/-- The position of the largest of a window's nine is that of the pick by `>`. -/
theorem argmax_val (W : Valuation τ sig (Elt Ideal)) (a : TRef sig ⟨S1023x1023x9, .f32⟩) (φ : fn_argmax.Bufs)
    (h : Line.Holds W (argmax_lines a φ)) (i j : Fin 1023) (d : Nat → EReal)
    (hd : ∀ k : Fin 9, val W a (ix3 i j k) = d k.val) :
    ∃ m ≤ 8, val W φ.v1_1 (ix2 i j) = BitVec.ofNat 32 m ∧ ∀ c : Nat → EReal, pick (· > ·) d c 8 = (d m, c m) := by
  simp only [argmax_lines, Line.Holds, Line.Line.Holds] at h
  obtain ⟨h0, hcst, hc, -, h1, -⟩ := h
  obtain ⟨m, hm, he, hp⟩ := fold_pick (· > ·) (reducer_argmax_f32_i32 (F := Ideal)) d (Ideal.ofBits .f32 0xFF800000#32)
    (by
      have : Ideal.ofBits .f32 0xFF800000#32 = ⊥ := by decide
      rw [this]
      simp [reducer_argmax_f32_i32, Ideal.cmpf_def, Ideal.cmp, IntOp.ori, IntOp.andi, Scalar.select])
    (fun b m k hm hk => argmax_step b (d k) m k hm hk) 8 (by decide)
  refine ⟨m, hm, ?_, hp⟩
  rw [h1]; dsimp only
  rw [Ideal.argReduce_eq_reduce2, Host.reduce2_eq_foldl_fiber, h0, fiber_range _ d i j hd, hcst, hc]
  exact congrArg Prod.snd he

/-- Where every bit is one, so is their conjunction. -/
theorem foldl_and_one {ι : Type} (x : ι → BitVec 1) : ∀ l : List ι, (∀ i ∈ l, x i = 1#1) →
    l.foldl (fun r i => IntOp.andi r (x i)) 1#1 = 1#1
  | [], _ => rfl
  | i :: l, h => by
    rw [List.foldl_cons, h i (.head _)]
    exact foldl_and_one x l fun k hk => h k (.tail _ hk)

/-- The entry of a window that its position names. -/
theorem take_val (W : Valuation τ sig (Elt Ideal)) (a : TRef sig ⟨S1023x1023x9, .f32⟩) (p : TRef sig ⟨S1023x1023x1, .i32⟩)
    (φ : fn_take_along_axis.Bufs) (h : Line.Holds W (take_along_axis_lines a p φ)) (i j : Fin 1023) (m : Nat) (hm : m ≤ 8)
    (hp : val W p (ix3 i j 0) = BitVec.ofNat 32 m) :
    val W φ.v15 (ix3 i j 0) = val W a (ix3 i j ⟨m, by omega⟩) := by
  simp only [take_along_axis_lines, Line.Holds, Line.Line.Holds] at h
  obtain ⟨hc, h0, h1, hc0, h2, h3, h4, h5, hc1, hc2, h6, h7, h8, h9, h10, h11, hc3, h12, h13, hcst, h14, h15, -⟩ := h
  have word : val W φ.v5 (ix4 i j 0 0) = BitVec.ofNat 32 m := by
    have e : val W φ.v5 (ix4 i j 0 0) = val W φ.v4 (ix3 i j 0) := by
      rw [h5]; generalize val W φ.v4 = v; pointwise
    rw [e, h4, h1, h3, h0, h2, hc, hc0]
    generalize val W p = v at hp ⊢
    pointwise
    rw [hp, wrap_ofNat _ (by omega)]
  have inside (v : S1023x1023x1x1.Idx) (hv : reducesTo_S1023x1023x1x1_S1023x1023x1_d3.drop v = ix3 i j 0) :
      val W φ.v11 v = 1#1 := by
    have e0 : (reducesTo_S1023x1023x1x1_S1023x1023x1_d3.drop v 0).val = (v 0).val := rfl
    have e1 : (reducesTo_S1023x1023x1x1_S1023x1023x1_d3.drop v 1).val = (v 1).val := rfl
    have ev : v = ix4 i j 0 0 := by
      funext b
      refine Fin.ext ?_
      match b with
      | ⟨0, _⟩ => exact e0.symm.trans (by rw [hv]; rfl)
      | ⟨1, _⟩ => exact e1.symm.trans (by rw [hv]; rfl)
      | ⟨2, _⟩ => exact Nat.lt_one_iff.mp (v 2).isLt
      | ⟨3, _⟩ => exact Nat.lt_one_iff.mp (v 3).isLt
    rw [ev, h11, h7, h10, h6, h9, h8, hc1, hc2]
    generalize val W φ.v5 = u at word ⊢
    pointwise
    rw [word]
    have : ∀ m : Fin 9, IntOp.andi (IntOp.cmpi .sge (BitVec.ofNat 32 m.val) 0#32) (IntOp.cmpi .sle (BitVec.ofNat 32 m.val) 8#32) = 1#1 := by
      decide
    exact this ⟨m, by omega⟩
  have mask : val W φ.v12 (ix3 i j 0) = 1#1 := by
    rw [h12, Host.reduce_eq_foldl, hc3]
    refine foldl_and_one _ _ fun v hv => inside v ?_
    simpa using (List.mem_filter.mp hv).2
  have got : val W φ.v13 (ix3 i j 0) = val W a (ix3 i j ⟨m, by omega⟩) := by
    rw [h13, gather_nine]
    congr 1
    refine congrArg (ix3 i j) (Fin.ext ?_)
    show min (BitVec.toInt _).toNat 8 = m
    rw [word, toInt_toNat _ (by omega)]; omega
  rw [h15]
  show Scalar.select (val W φ.v12 (ix3 i j 0)) (val W φ.v13 (ix3 i j 0)) (val W φ.v14 (ix3 i j 0)) = _
  rw [mask, got]; rfl

end Cert.Ref

end
-- ==== Proof.RefFill.lean ====
module

public import proofs.«01_k».proof.Proof.RefVal

/-! The reference's fill: each pixel takes the value of the last window that covers it, or keeps its own. -/

@[expose] public section

noncomputable section

namespace Cert.Ref

open Cert.ReferenceIdeal Cert.ReferenceIdeal.Gen Cert.Line Cert.Spec Idealize.ShloMosaic Idealize.ShloMosaic.StableHlo

/-- The sign of a word. -/
def signWord (w : BitVec 32) : BitVec 32 := if w = 0 then 0 else if w.msb = true then -1 else 1

/-- The reference's division of a coordinate by two, rounded down, on one word. -/
def halfWord (w : BitVec 32) : BitVec 32 :=
  Scalar.select (IntOp.andi (IntOp.cmpi .ne (signWord w) (signWord 2#32)) (IntOp.cmpi .ne (IntOp.remsi .host w 2#32) 0#32))
    (IntOp.subi (IntOp.divsi .host w 2#32) 1#32) (IntOp.divsi .host w 2#32)

/-- It is the half, rounded down. -/
theorem halfWord_ofNat (r : Fin 2048) : halfWord (BitVec.ofNat 32 r.val) = BitVec.ofNat 32 (r.val / 2) := by
  revert r; decide +kernel

/-- The division of the coordinates by two. -/
theorem floor_val (W : Valuation τ sig (Elt Ideal)) (a : TRef sig ⟨S2048, .i32⟩) (b : TRef sig ⟨S_, .i32⟩)
    (φ : fn_floor_divide.Bufs) (h : Line.Holds W (floor_divide_lines a b φ)) (ha : val W a = iotaInDim S2048 32 0)
    (hb : val W b = constantI S_ 32 2#32) (r : Fin 2048) :
    val W φ.call0.v0 (ix1 r) = BitVec.ofNat 32 (r.val / 2) := by
  simp only [floor_divide_lines, where_lines, List.cons_append, List.nil_append, Line.Holds, Line.Line.Holds] at h
  obtain ⟨h0, h1, h2, h3, h4, h5, h6, h7, h8, hc, h9, h10, h11, hc0, h12, h13, h14, -⟩ := h
  rw [← halfWord_ofNat, h14, h11, h13, h6, h10, h2, h12, h3, h5, h8, h9, h4, h7, h1, h0, hc, hc0, ha, hb]
  unfold halfWord
  pointwise
  rfl

/-- The last window over a coordinate, and whether it covers it, on one word. -/
theorem last_window (r : Fin 2048) :
    IntOp.minsi (BitVec.ofNat 32 (r.val / 2)) 1022#32 = BitVec.ofNat 32 (min (r.val / 2) 1022)
      ∧ IntOp.cmpi .sle (IntOp.subi (BitVec.ofNat 32 r.val) (IntOp.muli (BitVec.ofNat 32 (min (r.val / 2) 1022)) 2#32)) 2#32
        = BitVec.ofBool (decide (r.val < 2047)) := by
  revert r; decide +kernel

/-- The last window that covers a coordinate, held at the last window there is. -/
def lastWindow (r : Fin 2048) : Fin 1023 := ⟨min (r.val / 2) 1022, by omega⟩

/-- Each pixel takes the value of the last window that covers it, or keeps its own. -/
theorem fill_val (W : Valuation τ sig (Elt Ideal)) (v : TRef sig ⟨S1023x1023, .f32⟩) (y : TRef sig ⟨S2048x2048, .f32⟩)
    (φ : fn_fill.Bufs) (h : Line.Holds W (fill_lines v y φ)) (r c : Fin 2048) :
    val W φ.call2.v0 (ix2 r c)
      = if r.val < 2047 ∧ c.val < 2047 then
          (val W v (ix2 (lastWindow r) (lastWindow c)) : EReal)
        else (val W y (ix2 r c) : EReal) := by
  unfold fill_lines at h
  rw [holds_append, holds_append, holds_append, holds_append, holds_append] at h
  obtain ⟨⟨⟨⟨⟨hA, hD0⟩, hB⟩, hD1⟩, hC⟩, hE⟩ := h
  simp only [Line.Holds, Line.Line.Holds] at hA hB hC
  simp only [where_0_lines, Line.Holds, Line.Line.Holds] at hE
  obtain ⟨h0, h1, hc, -⟩ := hA
  obtain ⟨hc0, h3, h4, hc1, -⟩ := hB
  obtain ⟨hc2, h6, h7, hc3, h8, h9, h10, hc4, h11, h12, hc5, h13, h14, h15, hc6, h16, h17, h18, h19, h20, h21, h22, h23,
    h24, hc7, h25, h26, hc8, h27, h28, h29, hc9, h30, h31, hc10, h32, h33, h34, h35, h36, h37, h38, h39, h40, -⟩ := hC
  have f0 := floor_val W _ _ _ hD0 h0 hc
  have f1 := floor_val W _ _ _ hD1 h1 hc1
  have w4 (r : Fin 2048) : val W φ.v4 (ix1 r) = BitVec.ofNat 32 (min (r.val / 2) 1022) := by
    rw [h4, h3, hc0, ← (last_window r).1, ← f0 r]
    generalize val W φ.call0.call0.v0 = u
    pointwise
  have w7 (r : Fin 2048) : val W φ.v7 (ix1 r) = BitVec.ofNat 32 (min (r.val / 2) 1022) := by
    rw [h7, h6, hc2, ← (last_window r).1, ← f1 r]
    generalize val W φ.call1.call0.v0 = u
    pointwise
  have c12 (r : Fin 2048) : val W φ.v12 (ix1 r) = BitVec.ofBool (decide (r.val < 2047)) := by
    rw [← (last_window r).2, ← w4 r, h12, h10, h9, h8, h11, h0, hc3, hc4]
    generalize val W φ.v4 = u
    pointwise
  have c17 (r : Fin 2048) : val W φ.v17 (ix1 r) = BitVec.ofBool (decide (r.val < 2047)) := by
    rw [← (last_window r).2, ← w7 r, h17, h15, h14, h13, h16, h1, hc5, hc6]
    generalize val W φ.v7 = u
    pointwise
  have m22 : val W φ.v22 (ix2 r c) = IntOp.andi (BitVec.ofBool (decide (r.val < 2047))) (BitVec.ofBool (decide (c.val < 2047))) := by
    rw [← c12, ← c17, h22, h20, h21, h18, h19]
    generalize val W φ.v12 = u
    generalize val W φ.v17 = w
    pointwise
  have i37 : val W φ.v37 (ix3 r c 0) = BitVec.ofNat 32 (min (r.val / 2) 1022) := by
    rw [← wrap_ofNat (min (r.val / 2) 1022) (by have := r.isLt; omega) (IntOp.addi (BitVec.ofNat 32 (min (r.val / 2) 1022)) 1023#32), ← w4,
      h37, h35, h29, h26, h28, h25, h27, h23, hc7, hc8]
    generalize val W φ.v4 = u
    pointwise
  have i38 : val W φ.v38 (ix3 r c 0) = BitVec.ofNat 32 (min (c.val / 2) 1022) := by
    rw [← wrap_ofNat (min (c.val / 2) 1022) (by have := c.isLt; omega) (IntOp.addi (BitVec.ofNat 32 (min (c.val / 2) 1022)) 1023#32), ← w7,
      h38, h36, h34, h31, h33, h30, h32, h24, hc9, hc10]
    generalize val W φ.v7 = u
    pointwise
  have g40 : val W φ.v40 (ix2 r c)
      = val W v (ix2 (lastWindow r) (lastWindow c)) := by
    rw [h40, gather_pixel, h39]
    congr 1
    refine congrArg₂ ix2 (Fin.ext ?_) (Fin.ext ?_)
    · show min (BitVec.toInt (pair3 _ _ _)).toNat 1022 = _
      rw [pair3_0, i37, toInt_toNat _ (by omega)]; show _ = min (r.val / 2) 1022; omega
    · show min (BitVec.toInt (pair3 _ _ _)).toNat 1022 = _
      rw [pair3_1, i38, toInt_toNat _ (by omega)]; show _ = min (c.val / 2) 1022; omega
  rw [hE.1]
  show Scalar.select (val W φ.v22 (ix2 r c)) (val W φ.v40 (ix2 r c)) (val W y (ix2 r c)) = _
  rw [m22, g40]
  by_cases hr : r.val < 2047 <;> by_cases hc : c.val < 2047 <;>
    simp [hr, hc, Scalar.select, IntOp.andi]

end Cert.Ref

end
-- ==== Proof.RefPool.lean ====
module

public import proofs.«01_k».proof.Proof.RefPick
public import proofs.«01_k».proof.Proof.RefFill
public import proofs.«01_k».proof.Proof.RefRun

/-! The values of the reference's two results. -/

@[expose] public section

noncomputable section

namespace Cert.Ref

open Cert.ReferenceIdeal Cert.ReferenceIdeal.Gen Cert.Line Cert.Spec Idealize.ShloMosaic Idealize.ShloMosaic.StableHlo
  Idealize.ShloMosaic.TcCoe Idealize.SL.Sem

/-- The image that a buffer holds, as a plane. -/
def planeOf (v : S2048x2048.Idx → EReal) : Nat → Nat → EReal := plane fun r c => v (ix2 r c)

/-- What a pool leaves when its lines hold and its search finds the position of the best distance. -/
theorem pool_of (r : EReal → EReal → Prop) [DecidableRel r] (W : Valuation τ sig (Elt Ideal))
    (a b : TRef sig ⟨S2048x2048, .f32⟩) (φ0 φ1 : fn_windows.Bufs) (v2 v3 : TRef sig ⟨S1023x1023x9, .f32⟩)
    (p : TRef sig ⟨S1023x1023, .i32⟩) (v5 : TRef sig ⟨S1023x1023x1, .i32⟩) (φ3 : fn_take_along_axis.Bufs)
    (v7 : TRef sig ⟨S1023x1023, .f32⟩) (φ4 : fn_fill.Bufs)
    (h0 : Line.Holds W (windows_lines a φ0)) (h1 : Line.Holds W (windows_lines b φ1))
    (h2 : Line.Holds W [.bin φ0.v36 φ1.v36 v2 (subf (F := Ideal) (s := S1023x1023x9) (φ := .f32)),
      .un v2 v3 (Host.absf (F := Ideal) (s := S1023x1023x9) (φ := .f32))])
    (hp : ∀ (i j : Fin 1023) (d : Nat → EReal), (∀ k : Fin 9, val W v3 (ix3 i j k) = d k.val) →
      ∃ m ≤ 8, val W p (ix2 i j) = BitVec.ofNat 32 m ∧ ∀ c : Nat → EReal, pick r d c 8 = (d m, c m))
    (h5 : Line.Holds W [.un p v5 (broadcastInDim S1023x1023x1 ![0, 1] bcast_S1023x1023_S1023x1023x1_0_1)])
    (h6 : Line.Holds W (take_along_axis_lines φ1.v36 v5 φ3))
    (h7 : Line.Holds W [.resh φ3.v15 v7 rfl shapeCasts_S1023x1023x1_S1023x1023])
    (h8 : Line.Holds W (fill_lines v7 b φ4)) (P Q : Fin 2048) :
    val W φ4.call2.v0 (ix2 P Q) = pool r (planeOf (val W a)) (planeOf (val W b)) P.val Q.val := by
  simp only [Line.Holds, Line.Line.Holds] at h2 h5 h7
  obtain ⟨h2, h3, -⟩ := h2
  have window (x : TRef sig ⟨S2048x2048, .f32⟩) (φ : fn_windows.Bufs) (h : Line.Holds W (windows_lines x φ))
      (i j : Fin 1023) (k : Fin 9) :
      val W φ.v36 (ix3 i j k) = planeOf (val W x) (2 * i.val + k.val / 3) (2 * j.val + k.val % 3) := by
    rw [windows_val W x φ h]
    exact (plane_of_lt (fun r c => val W x (ix2 r c)) (by omega) (by omega)).symm
  have chosen (i j : Fin 1023) : val W v7 (ix2 i j) = best r (planeOf (val W a)) (planeOf (val W b)) i.val j.val := by
    obtain ⟨m, hm, hw, hpick⟩ := hp i j (fun k => dist (planeOf (val W a) (2 * i.val + k / 3) (2 * j.val + k % 3))
      (planeOf (val W b) (2 * i.val + k / 3) (2 * j.val + k % 3))) (by
        intro k
        dsimp only
        rw [← window a φ0 h0, ← window b φ1 h1, h3, h2]
        rfl)
    have e : val W v7 (ix2 i j) = val W φ3.v15 (ix3 i j 0) := by
      rw [h7.1]; generalize val W φ3.v15 = v; pointwise
    have e5 : val W v5 (ix3 i j 0) = val W p (ix2 i j) := by
      rw [h5.1]; generalize val W p = v; pointwise
    rw [e, take_val W _ _ φ3 h6 i j m hm (e5.trans hw), window b φ1 h1, best, hpick]
  rw [fill_val W _ _ φ4 h8, Spec.pool]
  split
  · rw [chosen]; rfl
  · exact (plane_of_lt (fun r c => val W b (ix2 r c)) P.isLt Q.isLt).symm

/-- The pool by the smallest distance. -/
theorem pool_val (W : Valuation τ sig (Elt Ideal)) (a b : TRef sig ⟨S2048x2048, .f32⟩) (φ : fn_pool.Bufs)
    (h : Line.Holds W (pool_lines a b φ)) (P Q : Fin 2048) :
    val W φ.call4.call2.v0 (ix2 P Q) = pool (· < ·) (planeOf (val W a)) (planeOf (val W b)) P.val Q.val := by
  unfold pool_lines at h
  simp only [holds_append] at h
  obtain ⟨⟨⟨⟨⟨⟨⟨h0, h1⟩, h2⟩, h3⟩, h5⟩, h6⟩, h7⟩, h8⟩ := h
  exact pool_of (· < ·) W a b _ _ _ _ _ _ _ _ _ h0 h1 h2 (argmin_val W _ _ h3) h5 h6 h7 h8 P Q

/-- The pool by the largest distance. -/
theorem pool_1_val (W : Valuation τ sig (Elt Ideal)) (a b : TRef sig ⟨S2048x2048, .f32⟩) (φ : fn_pool_1.Bufs)
    (h : Line.Holds W (pool_1_lines a b φ)) (P Q : Fin 2048) :
    val W φ.call4.call2.v0 (ix2 P Q) = pool (· > ·) (planeOf (val W a)) (planeOf (val W b)) P.val Q.val := by
  unfold pool_1_lines at h
  simp only [holds_append] at h
  obtain ⟨⟨⟨⟨⟨⟨⟨h0, h1⟩, h2⟩, h3⟩, h5⟩, h6⟩, h7⟩, h8⟩ := h
  exact pool_of (· > ·) W a b _ _ _ _ _ _ _ _ _ h0 h1 h2 (argmax_val W _ _ h3) h5 h6 h7 h8 P Q

/-- When all lines hold, the two results are the totals of the anchor with the positive and the negative image. -/
theorem total_val (W : Valuation τ sig (Elt Ideal)) (h : Line.Holds W main_lines) (P Q : Fin 2048) :
    val W (.of main_v2 : TRef sig ⟨S2048x2048, .f32⟩) (ix2 P Q)
        = total (planeOf (val W (.of main_arg0 : TRef sig ⟨S2048x2048, .f32⟩)))
          (planeOf (val W (.of main_arg1 : TRef sig ⟨S2048x2048, .f32⟩))) P.val Q.val
      ∧ val W (.of main_v5 : TRef sig ⟨S2048x2048, .f32⟩) (ix2 P Q)
        = total (planeOf (val W (.of main_arg0 : TRef sig ⟨S2048x2048, .f32⟩)))
          (planeOf (val W (.of main_arg2 : TRef sig ⟨S2048x2048, .f32⟩))) P.val Q.val := by
  unfold main_lines at h
  rw [holds_append, holds_append, holds_append, holds_append, holds_append] at h
  have e2 := h.1.1.1.2.1
  have e5 := h.2.1
  simp only [Line.Line.Holds] at e2 e5
  have p0 := pool_val W _ _ main_call0 h.1.1.1.1.1 P Q
  have p1 := pool_1_val W _ _ main_call1 h.1.1.1.1.2 P Q
  have p3 := pool_val W _ _ main_call2 h.1.1.2 P Q
  have p4 := pool_1_val W _ _ main_call3 h.1.2 P Q
  constructor
  · rw [e2]; exact congrArg₂ (· + · : EReal → EReal → EReal) p0 p1
  · rw [e5]; exact congrArg₂ (· + · : EReal → EReal → EReal) p3 p4

/-- The image of pooled sums of two images: what either result holds. -/
def pooled (v w : S2048x2048.Idx → EReal) : S2048x2048.Idx → EReal :=
  fun j => total (planeOf v) (planeOf w) (j 0).val (j 1).val

/-- A memory read at a reference that keeps its buffer's own type is what it holds there. -/
theorem val_of (W : Valuation τ sig (Elt Ideal)) (b : Ref sig .tc) (h₁ h₂ h₃) :
    val W (⟨b, h₁, h₂, h₃⟩ : TRef sig b.ty) = W (Proc.devRef .tc b) := rfl

/-- Every execution of the reference ends with the two pooled sums in its results and its arguments unchanged. -/
theorem run_pooled (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = pooled (m ((c.tc : Thread nD τ).loc main_arg0)) (m ((c.tc : Thread nD τ).loc main_arg1))
    ∧ r.2.mem ((c.tc : Thread nD τ).loc main_v5) = pooled (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run m ρ)
  have arg (b : Ref sig .tc) (hb : b.idx.val < 3) := (h c b).trans (final_arg m c b hb)
  have total (P Q : Fin 2048) := total_val (final m c) (final_holds m c) P Q
  have a0 : val (final m c) (.of main_arg0 : TRef sig ⟨S2048x2048, .f32⟩) = m ((c.tc : Thread nD τ).loc main_arg0) :=
    (val_of (final m c) main_arg0 _ _ _).trans (final_arg m c main_arg0 (by decide))
  have a1 : val (final m c) (.of main_arg1 : TRef sig ⟨S2048x2048, .f32⟩) = m ((c.tc : Thread nD τ).loc main_arg1) :=
    (val_of (final m c) main_arg1 _ _ _).trans (final_arg m c main_arg1 (by decide))
  have a2 : val (final m c) (.of main_arg2 : TRef sig ⟨S2048x2048, .f32⟩) = m ((c.tc : Thread nD τ).loc main_arg2) :=
    (val_of (final m c) main_arg2 _ _ _).trans (final_arg m c main_arg2 (by decide))
  rw [a0, a1, a2] at total
  refine ⟨(h c main_v2).trans (funext fun j => ?_), (h c main_v5).trans (funext fun j => ?_), arg main_arg0 (by decide),
    arg main_arg1 (by decide), arg main_arg2 (by decide)⟩
  · obtain ⟨P, Q, rfl⟩ : ∃ (P Q : Fin 2048), j = ix2 P Q := ⟨j 0, j 1, eq_ix2 j⟩
    exact (total P Q).1
  · obtain ⟨P, Q, rfl⟩ : ∃ (P Q : Fin 2048), j = ix2 P Q := ⟨j 0, j 1, eq_ix2 j⟩
    exact (total P Q).2

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.RefPool
public import Idealize.ShloMosaic.Adequacy
public import Idealize.ShloMosaic.Init

@[expose] public section

noncomputable section

namespace Cert.Proof

open Idealize.ShloMosaic Idealize.SL.Sem Cert.Kernel

/-- The kernel and its idealization run to the end, leave their arguments and every counter as they should, and so does
the reference; the idealization changes nothing; and kernel and reference hold the same two images of pooled sums. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.Ref.frame m g,
  trivial, fun m g m' g' _ hagree =>
    ⟨_, _, Cert.Block.run m g, (θ_run _ _ _).mono (fun _ h c => by
      have r := h c
      obtain ⟨e0, e1, e2⟩ := hagree c
      refine ⟨r.1.trans ?_, r.2.1.trans ?_, r.2.2⟩
      · rw [e0, e1]; rfl
      · rw [e0, e2]; rfl) (Cert.Ref.run_pooled m' g')⟩⟩

end Cert.Proof

end
